-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S256x4096 : Shape := ⟨2, ![256, 4096]⟩
abbrev S2x256x4096 : Shape := ⟨3, ![2, 256, 4096]⟩
abbrev S4x256x256 : Shape := ⟨3, ![4, 256, 256]⟩
abbrev S3 : Shape := ⟨1, ![3]⟩
abbrev S4 : Shape := ⟨1, ![4]⟩
abbrev S1 : Shape := ⟨1, ![1]⟩
abbrev S_ : Shape := ⟨0, ![]⟩
abbrev S1x256x4096 : Shape := ⟨3, ![1, 256, 4096]⟩
abbrev S256x256 : Shape := ⟨2, ![256, 256]⟩
abbrev S1x256x256 : Shape := ⟨3, ![1, 256, 256]⟩
abbrev S128x256 : Shape := ⟨2, ![128, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S1024x1024, .f32⟩
  | .local _ .vmem, ⟨1, _⟩ => ⟨S256x4096, .f32⟩
  | .local _ .vmem, ⟨2, _⟩ => ⟨S2x256x4096, .f32⟩
  | .local _ .vmem, ⟨3, _⟩ => ⟨S4x256x256, .f32⟩
  | .local _ .vmem, ⟨4, _⟩ => ⟨S4x256x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v17 : BitVec 32 := Scalar.muli v10 c256_i32
  let c0_i32 : BitVec 32 := 0#32
  ![v17.toNat, 0]
def k0_dev1 (d0 : Dev nD) : Nat :=
  let c0_i32_22 : BitVec 32 := 0#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_17 v2
  let c4_i32_21 : BitVec 32 := 4#32
  let v32 : BitVec 32 := Scalar.muli v29 c4_i32_21
  let v33 : BitVec 32 := Scalar.addi c0_i32_22 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v34 : BitVec 32 := Scalar.muli v5 c2_i32_23
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v36 : BitVec 32 := Scalar.muli v8 c1_i32_24
  let v37 : BitVec 32 := Scalar.addi v35 v36
  v37.toNat
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v38 : BitVec 32 := Scalar.muli v2 c4_i32_26
  let v39 : BitVec 32 := Scalar.addi c0_i32_27 v38
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_18 v5
  let c2_i32_28 : BitVec 32 := 2#32
  let v40 : BitVec 32 := Scalar.muli v30 c2_i32_28
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v42 : BitVec 32 := Scalar.muli v8 c1_i32_29
  let v43 : BitVec 32 := Scalar.addi v41 v42
  v43.toNat
def k0_dev3 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v44 : BitVec 32 := Scalar.muli v2 c4_i32_31
  let v45 : BitVec 32 := Scalar.addi c0_i32_32 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v46 : BitVec 32 := Scalar.muli v5 c2_i32_33
  let v47 : BitVec 32 := Scalar.addi v45 v46
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_19 v8
  let c1_i32_34 : BitVec 32 := 1#32
  let v48 : BitVec 32 := Scalar.muli v31 c1_i32_34
  let v49 : BitVec 32 := Scalar.addi v47 v48
  v49.toNat
def k0_dev4 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v81 : BitVec 32 := Scalar.muli v2 c4_i32_70
  let v82 : BitVec 32 := Scalar.addi c0_i32_71 v81
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_35 v5
  let c2_i32_72 : BitVec 32 := 2#32
  let v83 : BitVec 32 := Scalar.muli v50 c2_i32_72
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v85 : BitVec 32 := Scalar.muli v8 c1_i32_73
  let v86 : BitVec 32 := Scalar.addi v84 v85
  v86.toNat
def k0_dev5 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v112 : BitVec 32 := Scalar.muli v2 c4_i32_101
  let v113 : BitVec 32 := Scalar.addi c0_i32_102 v112
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_35 v5
  let c2_i32_103 : BitVec 32 := 2#32
  let v114 : BitVec 32 := Scalar.muli v50 c2_i32_103
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v116 : BitVec 32 := Scalar.muli v8 c1_i32_104
  let v117 : BitVec 32 := Scalar.addi v115 v116
  v117.toNat
def k0_dev6 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_132 : BitVec 32 := 4#32
  let v143 : BitVec 32 := Scalar.muli v2 c4_i32_132
  let v144 : BitVec 32 := Scalar.addi c0_i32_133 v143
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_35 v5
  let c2_i32_134 : BitVec 32 := 2#32
  let v145 : BitVec 32 := Scalar.muli v50 c2_i32_134
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v147 : BitVec 32 := Scalar.muli v8 c1_i32_135
  let v148 : BitVec 32 := Scalar.addi v146 v147
  v148.toNat
def k0_dev7 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v169 : BitVec 32 := Scalar.muli v2 c4_i32_158
  let v170 : BitVec 32 := Scalar.addi c0_i32_159 v169
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_35 v5
  let c2_i32_160 : BitVec 32 := 2#32
  let v171 : BitVec 32 := Scalar.muli v50 c2_i32_160
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v173 : BitVec 32 := Scalar.muli v8 c1_i32_161
  let v174 : BitVec 32 := Scalar.addi v172 v173
  v174.toNat
def k0_off2 (d0 : Dev nD) : Fin 2 → Nat :=
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v17 : BitVec 32 := Scalar.muli v10 c256_i32
  let v206 : Index := Scalar.indexCast v17
  let c0_193 : Index := 0#32
  ![v206.toNat, 0]
def k0_off3 (d0 : Dev nD) : Fin 2 → Nat :=
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v17 : BitVec 32 := Scalar.muli v10 c256_i32
  let c0_i32_200 : BitVec 32 := 0#32
  ![v17.toNat, 0]
def k0_dev8 (d0 : Dev nD) : Nat :=
  let c0_i32_197 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_36 v2
  let c4_i32_196 : BitVec 32 := 4#32
  let v208 : BitVec 32 := Scalar.muli v51 c4_i32_196
  let v209 : BitVec 32 := Scalar.addi c0_i32_197 v208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v210 : BitVec 32 := Scalar.muli v5 c2_i32_198
  let v211 : BitVec 32 := Scalar.addi v209 v210
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_199 : BitVec 32 := 1#32
  let v212 : BitVec 32 := Scalar.muli v8 c1_i32_199
  let v213 : BitVec 32 := Scalar.addi v211 v212
  v213.toNat
def k0_dev9 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v220 : BitVec 32 := Scalar.muli v2 c4_i32_204
  let v221 : BitVec 32 := Scalar.addi c0_i32_205 v220
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_206 : BitVec 32 := 2#32
  let v222 : BitVec 32 := Scalar.muli v5 c2_i32_206
  let v223 : BitVec 32 := Scalar.addi v221 v222
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_37 v8
  let c1_i32_207 : BitVec 32 := 1#32
  let v224 : BitVec 32 := Scalar.muli v52 c1_i32_207
  let v225 : BitVec 32 := Scalar.addi v223 v224
  v225.toNat
def k0_off4 (d0 : Dev nD) : Fin 2 → Nat :=
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v17 : BitVec 32 := Scalar.muli v10 c256_i32
  let v255 : Index := Scalar.indexCast v17
  let c256 : Index := 256#32
  ![v255.toNat, 256]
def k0_off5 (d0 : Dev nD) : Fin 2 → Nat :=
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v17 : BitVec 32 := Scalar.muli v10 c256_i32
  let c256_i32_243 : BitVec 32 := 256#32
  ![v17.toNat, 256]
def k0_dev10 (d0 : Dev nD) : Nat :=
  let c0_i32_240 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_36 v2
  let c4_i32_239 : BitVec 32 := 4#32
  let v257 : BitVec 32 := Scalar.muli v51 c4_i32_239
  let v258 : BitVec 32 := Scalar.addi c0_i32_240 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v259 : BitVec 32 := Scalar.muli v5 c2_i32_241
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v261 : BitVec 32 := Scalar.muli v8 c1_i32_242
  let v262 : BitVec 32 := Scalar.addi v260 v261
  v262.toNat
def k0_dev11 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v269 : BitVec 32 := Scalar.muli v2 c4_i32_247
  let v270 : BitVec 32 := Scalar.addi c0_i32_248 v269
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v271 : BitVec 32 := Scalar.muli v5 c2_i32_249
  let v272 : BitVec 32 := Scalar.addi v270 v271
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_37 v8
  let c1_i32_250 : BitVec 32 := 1#32
  let v273 : BitVec 32 := Scalar.muli v52 c1_i32_250
  let v274 : BitVec 32 := Scalar.addi v272 v273
  v274.toNat
def k0_off6 (d0 : Dev nD) : Fin 2 → Nat :=
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v17 : BitVec 32 := Scalar.muli v10 c256_i32
  let v304 : Index := Scalar.indexCast v17
  let c512 : Index := 512#32
  ![v304.toNat, 512]
def k0_off7 (d0 : Dev nD) : Fin 2 → Nat :=
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v17 : BitVec 32 := Scalar.muli v10 c256_i32
  let c512_i32_286 : BitVec 32 := 512#32
  ![v17.toNat, 512]
def k0_dev12 (d0 : Dev nD) : Nat :=
  let c0_i32_283 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_36 v2
  let c4_i32_282 : BitVec 32 := 4#32
  let v306 : BitVec 32 := Scalar.muli v51 c4_i32_282
  let v307 : BitVec 32 := Scalar.addi c0_i32_283 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_284 : BitVec 32 := 2#32
  let v308 : BitVec 32 := Scalar.muli v5 c2_i32_284
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_285 : BitVec 32 := 1#32
  let v310 : BitVec 32 := Scalar.muli v8 c1_i32_285
  let v311 : BitVec 32 := Scalar.addi v309 v310
  v311.toNat
def k0_dev13 (d0 : Dev nD) : Nat :=
  let c0_i32_291 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_290 : BitVec 32 := 4#32
  let v318 : BitVec 32 := Scalar.muli v2 c4_i32_290
  let v319 : BitVec 32 := Scalar.addi c0_i32_291 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_292 : BitVec 32 := 2#32
  let v320 : BitVec 32 := Scalar.muli v5 c2_i32_292
  let v321 : BitVec 32 := Scalar.addi v319 v320
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_37 v8
  let c1_i32_293 : BitVec 32 := 1#32
  let v322 : BitVec 32 := Scalar.muli v52 c1_i32_293
  let v323 : BitVec 32 := Scalar.addi v321 v322
  v323.toNat
def k0_off8 (d0 : Dev nD) : Fin 2 → Nat :=
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v17 : BitVec 32 := Scalar.muli v10 c256_i32
  let v353 : Index := Scalar.indexCast v17
  let c768 : Index := 768#32
  ![v353.toNat, 768]
def k0_off9 (d0 : Dev nD) : Fin 2 → Nat :=
  let c2_i32_3 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.muli c2_i32_3 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.addi v9 v2
  let c256_i32 : BitVec 32 := 256#32
  let v17 : BitVec 32 := Scalar.muli v10 c256_i32
  let c768_i32_329 : BitVec 32 := 768#32
  ![v17.toNat, 768]
def k0_dev14 (d0 : Dev nD) : Nat :=
  let c0_i32_326 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_36 v2
  let c4_i32_325 : BitVec 32 := 4#32
  let v355 : BitVec 32 := Scalar.muli v51 c4_i32_325
  let v356 : BitVec 32 := Scalar.addi c0_i32_326 v355
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_327 : BitVec 32 := 2#32
  let v357 : BitVec 32 := Scalar.muli v5 c2_i32_327
  let v358 : BitVec 32 := Scalar.addi v356 v357
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_328 : BitVec 32 := 1#32
  let v359 : BitVec 32 := Scalar.muli v8 c1_i32_328
  let v360 : BitVec 32 := Scalar.addi v358 v359
  v360.toNat
def k0_dev15 (d0 : Dev nD) : Nat :=
  let c0_i32_334 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_333 : BitVec 32 := 4#32
  let v367 : BitVec 32 := Scalar.muli v2 c4_i32_333
  let v368 : BitVec 32 := Scalar.addi c0_i32_334 v367
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_335 : BitVec 32 := 2#32
  let v369 : BitVec 32 := Scalar.muli v5 c2_i32_335
  let v370 : BitVec 32 := Scalar.addi v368 v369
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_37 v8
  let c1_i32_336 : BitVec 32 := 1#32
  let v371 : BitVec 32 := Scalar.muli v52 c1_i32_336
  let v372 : BitVec 32 := Scalar.addi v370 v371
  v372.toNat
def k0_off10 (d0 : Dev nD) : Fin 2 → Nat :=
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.muli c2_i32_4 v8
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_8 : BitVec 32 := 256#32
  let v18 : BitVec 32 := Scalar.muli v13 c256_i32_8
  let c0_i32_358 : BitVec 32 := 0#32
  ![v18.toNat, 0]
def k0_dev16 (d0 : Dev nD) : Nat :=
  let c0_i32_355 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_354 : BitVec 32 := 4#32
  let v393 : BitVec 32 := Scalar.muli v2 c4_i32_354
  let v394 : BitVec 32 := Scalar.addi c0_i32_355 v393
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_356 : BitVec 32 := 2#32
  let v395 : BitVec 32 := Scalar.muli v5 c2_i32_356
  let v396 : BitVec 32 := Scalar.addi v394 v395
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_37 v8
  let c1_i32_357 : BitVec 32 := 1#32
  let v397 : BitVec 32 := Scalar.muli v52 c1_i32_357
  let v398 : BitVec 32 := Scalar.addi v396 v397
  v398.toNat
def k0_off11 (d0 : Dev nD) : Fin 2 → Nat :=
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.muli c2_i32_4 v8
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_8 : BitVec 32 := 256#32
  let v18 : BitVec 32 := Scalar.muli v13 c256_i32_8
  let c256_i32_379 : BitVec 32 := 256#32
  ![v18.toNat, 256]
def k0_dev17 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v419 : BitVec 32 := Scalar.muli v2 c4_i32_375
  let v420 : BitVec 32 := Scalar.addi c0_i32_376 v419
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v421 : BitVec 32 := Scalar.muli v5 c2_i32_377
  let v422 : BitVec 32 := Scalar.addi v420 v421
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_37 v8
  let c1_i32_378 : BitVec 32 := 1#32
  let v423 : BitVec 32 := Scalar.muli v52 c1_i32_378
  let v424 : BitVec 32 := Scalar.addi v422 v423
  v424.toNat
def k0_off12 (d0 : Dev nD) : Fin 2 → Nat :=
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.muli c2_i32_4 v8
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_8 : BitVec 32 := 256#32
  let v18 : BitVec 32 := Scalar.muli v13 c256_i32_8
  let c512_i32_400 : BitVec 32 := 512#32
  ![v18.toNat, 512]
def k0_dev18 (d0 : Dev nD) : Nat :=
  let c0_i32_397 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_396 : BitVec 32 := 4#32
  let v445 : BitVec 32 := Scalar.muli v2 c4_i32_396
  let v446 : BitVec 32 := Scalar.addi c0_i32_397 v445
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_398 : BitVec 32 := 2#32
  let v447 : BitVec 32 := Scalar.muli v5 c2_i32_398
  let v448 : BitVec 32 := Scalar.addi v446 v447
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_37 v8
  let c1_i32_399 : BitVec 32 := 1#32
  let v449 : BitVec 32 := Scalar.muli v52 c1_i32_399
  let v450 : BitVec 32 := Scalar.addi v448 v449
  v450.toNat
def k0_off13 (d0 : Dev nD) : Fin 2 → Nat :=
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.muli c2_i32_4 v8
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v13 : BitVec 32 := Scalar.addi v11 v12
  let c256_i32_8 : BitVec 32 := 256#32
  let v18 : BitVec 32 := Scalar.muli v13 c256_i32_8
  let c768_i32_421 : BitVec 32 := 768#32
  ![v18.toNat, 768]
def k0_dev19 (d0 : Dev nD) : Nat :=
  let c0_i32_418 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_417 : BitVec 32 := 4#32
  let v471 : BitVec 32 := Scalar.muli v2 c4_i32_417
  let v472 : BitVec 32 := Scalar.addi c0_i32_418 v471
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_419 : BitVec 32 := 2#32
  let v473 : BitVec 32 := Scalar.muli v5 c2_i32_419
  let v474 : BitVec 32 := Scalar.addi v472 v473
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_37 v8
  let c1_i32_420 : BitVec 32 := 1#32
  let v475 : BitVec 32 := Scalar.muli v52 c1_i32_420
  let v476 : BitVec 32 := Scalar.addi v474 v475
  v476.toNat
def k0_off14 (d0 : Dev nD) : Fin 2 → Nat :=
  let c2_i32_7 : BitVec 32 := 2#32
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_9 : BitVec 32 := 256#32
  let v19 : BitVec 32 := Scalar.muli v16 c256_i32_9
  let c128_i32_38 : BitVec 32 := 128#32
  let v54 : BitVec 32 := Scalar.addi v19 c128_i32_38
  let c0_i32_442 : BitVec 32 := 0#32
  ![v54.toNat, 0]
def k0_dev20 (d0 : Dev nD) : Nat :=
  let c0_i32_439 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_36 v2
  let c4_i32_438 : BitVec 32 := 4#32
  let v497 : BitVec 32 := Scalar.muli v51 c4_i32_438
  let v498 : BitVec 32 := Scalar.addi c0_i32_439 v497
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_440 : BitVec 32 := 2#32
  let v499 : BitVec 32 := Scalar.muli v5 c2_i32_440
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_441 : BitVec 32 := 1#32
  let v501 : BitVec 32 := Scalar.muli v8 c1_i32_441
  let v502 : BitVec 32 := Scalar.addi v500 v501
  v502.toNat
def k0_off15 (d0 : Dev nD) : Fin 2 → Nat :=
  let c2_i32_7 : BitVec 32 := 2#32
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_9 : BitVec 32 := 256#32
  let v19 : BitVec 32 := Scalar.muli v16 c256_i32_9
  let c128_i32_40 : BitVec 32 := 128#32
  let v56 : BitVec 32 := Scalar.addi v19 c128_i32_40
  let c256_i32_463 : BitVec 32 := 256#32
  ![v56.toNat, 256]
def k0_dev21 (d0 : Dev nD) : Nat :=
  let c0_i32_460 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_36 v2
  let c4_i32_459 : BitVec 32 := 4#32
  let v523 : BitVec 32 := Scalar.muli v51 c4_i32_459
  let v524 : BitVec 32 := Scalar.addi c0_i32_460 v523
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_461 : BitVec 32 := 2#32
  let v525 : BitVec 32 := Scalar.muli v5 c2_i32_461
  let v526 : BitVec 32 := Scalar.addi v524 v525
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_462 : BitVec 32 := 1#32
  let v527 : BitVec 32 := Scalar.muli v8 c1_i32_462
  let v528 : BitVec 32 := Scalar.addi v526 v527
  v528.toNat
def k0_off16 (d0 : Dev nD) : Fin 2 → Nat :=
  let c2_i32_7 : BitVec 32 := 2#32
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_9 : BitVec 32 := 256#32
  let v19 : BitVec 32 := Scalar.muli v16 c256_i32_9
  let c128_i32_42 : BitVec 32 := 128#32
  let v58 : BitVec 32 := Scalar.addi v19 c128_i32_42
  let c512_i32_484 : BitVec 32 := 512#32
  ![v58.toNat, 512]
def k0_dev22 (d0 : Dev nD) : Nat :=
  let c0_i32_481 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_36 v2
  let c4_i32_480 : BitVec 32 := 4#32
  let v549 : BitVec 32 := Scalar.muli v51 c4_i32_480
  let v550 : BitVec 32 := Scalar.addi c0_i32_481 v549
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_482 : BitVec 32 := 2#32
  let v551 : BitVec 32 := Scalar.muli v5 c2_i32_482
  let v552 : BitVec 32 := Scalar.addi v550 v551
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_483 : BitVec 32 := 1#32
  let v553 : BitVec 32 := Scalar.muli v8 c1_i32_483
  let v554 : BitVec 32 := Scalar.addi v552 v553
  v554.toNat
def k0_off17 (d0 : Dev nD) : Fin 2 → Nat :=
  let c2_i32_7 : BitVec 32 := 2#32
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let v15 : BitVec 32 := Scalar.muli c2_i32_7 v14
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.addi v15 v2
  let c256_i32_9 : BitVec 32 := 256#32
  let v19 : BitVec 32 := Scalar.muli v16 c256_i32_9
  let c128_i32_44 : BitVec 32 := 128#32
  let v60 : BitVec 32 := Scalar.addi v19 c128_i32_44
  let c768_i32_505 : BitVec 32 := 768#32
  ![v60.toNat, 768]
def k0_dev23 (d0 : Dev nD) : Nat :=
  let c0_i32_502 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_36 v2
  let c4_i32_501 : BitVec 32 := 4#32
  let v575 : BitVec 32 := Scalar.muli v51 c4_i32_501
  let v576 : BitVec 32 := Scalar.addi c0_i32_502 v575
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_503 : BitVec 32 := 2#32
  let v577 : BitVec 32 := Scalar.muli v5 c2_i32_503
  let v578 : BitVec 32 := Scalar.addi v576 v577
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_504 : BitVec 32 := 1#32
  let v579 : BitVec 32 := Scalar.muli v8 c1_i32_504
  let v580 : BitVec 32 := Scalar.addi v578 v579
  v580.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Body.lean ====
/- The kernel's body as a sequence of small steps, one family of steps per stage of the algorithm, indexed by the
   column chunk `j` (four chunks of 256 columns). -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Mm

open Cert.KernelIdeal Cert.KernelIdeal.Gen
open Idealize.ShloMosaic Idealize.ShloMosaic.TcCoe
open Idealize.SL Idealize.SL.Sem

variable {F : FTy → Type} [FloatOps F]

/-! ## The buffers -/

/-- The device's block of `dy`. -/
abbrev dyM : Memref sig .tc .hbm S1024x4096 .f32 := Memref.whole main_arg0
/-- The device's block of `W`. -/
abbrev wM : Memref sig .tc .hbm S1024x4096 .f32 := Memref.whole main_arg1
/-- The result, as it is assembled. -/
abbrev oM : Memref sig .tc .vmem S1024x1024 .f32 := Memref.whole cc0_stg0_0
/-- The rows of `dy` this device multiplies. -/
abbrev bM : Memref sig .tc .vmem S256x4096 .f32 := Memref.whole cc0_scratch0
/-- Two slots for chunks of `W`. -/
abbrev vM : Memref sig .tc .vmem S2x256x4096 .f32 := Memref.whole cc0_scratch1
/-- The device's own partial products, one slot per chunk. -/
abbrev pM : Memref sig .tc .vmem S4x256x256 .f32 := Memref.whole cc0_scratch2
/-- The partial products received, one slot per chunk. -/
abbrev rM : Memref sig .tc .vmem S4x256x256 .f32 := Memref.whole cc0_scratch3

/-! ## Slices -/

theorem slot_inb (j : Fin 4) : ∀ a, (![j.val, 0, 0] : Fin 3 → ℕ) a + S1x256x256.size a ≤ S4x256x256.size a := by revert j; decide
theorem wslot_inb (s : Fin 2) : ∀ a, (![s.val, 0, 0] : Fin 3 → ℕ) a + S1x256x4096.size a ≤ S2x256x4096.size a := by revert s; decide
theorem wchunk_inb (j : Fin 4) : ∀ a, (![256 * j.val, 0] : Fin 2 → ℕ) a + S256x4096.size a ≤ S1024x4096.size a := by revert j; decide

/-- The slot of `W` that chunk `j` uses. -/
abbrev par (j : Fin 4) : Fin 2 := ⟨j.val % 2, Nat.mod_lt _ (by decide)⟩

abbrev slotR (j : Fin 4) : Rect S4x256x256 := Rect.unit (s := S4x256x256) ![j.val, 0, 0] S1x256x256.size (slot_inb j)
abbrev wslotR (s : Fin 2) : Rect S2x256x4096 := Rect.unit (s := S2x256x4096) ![s.val, 0, 0] S1x256x4096.size (wslot_inb s)
abbrev pSlot (j : Fin 4) : Memref sig .tc .vmem S256x256 .f32 := (pM.slice (slotR j) (fun _ => rfl)).squeeze S256x256 squeezes_S1x256x256_S256x256
abbrev rSlot (j : Fin 4) : Memref sig .tc .vmem S256x256 .f32 := (rM.slice (slotR j) (fun _ => rfl)).squeeze S256x256 squeezes_S1x256x256_S256x256
abbrev wSlot (s : Fin 2) : Memref sig .tc .vmem S256x4096 .f32 := (vM.slice (wslotR s) (fun _ => rfl)).squeeze S256x4096 squeezes_S1x256x4096_S256x4096
abbrev wChunk (j : Fin 4) : Memref sig .tc .hbm S256x4096 .f32 := wM.slice (Rect.unit (s := S1024x4096) ![256 * j.val, 0] S256x4096.size (wchunk_inb j)) (fun _ => rfl)
abbrev dyRow (c : Dev nD) : Memref sig .tc .hbm S256x4096 .f32 := dyM.slice (Rect.unit (s := S1024x4096) (k0_off1 c) S256x4096.size (k0_off1_inb c)) (fun _ => rfl)

/-- The offsets of chunk `j` of the device's own tile row, as the store names them; -/
def ownOff (c : Dev nD) (j : Fin 4) : Fin 2 → ℕ :=
  match j with | 0 => k0_off2 c | 1 => k0_off4 c | 2 => k0_off6 c | 3 => k0_off8 c
/-- as the copies name them. -/
def tileOff (c : Dev nD) (j : Fin 4) : Fin 2 → ℕ :=
  match j with | 0 => k0_off3 c | 1 => k0_off5 c | 2 => k0_off7 c | 3 => k0_off9 c
/-- The offsets of the upper half of chunk `j` of the tile row received along `x`. -/
def zbOff (c : Dev nD) (j : Fin 4) : Fin 2 → ℕ :=
  match j with | 0 => k0_off10 c | 1 => k0_off11 c | 2 => k0_off12 c | 3 => k0_off13 c
/-- The offsets of the lower half of chunk `j` of the tile row received along `z`. -/
def xbOff (c : Dev nD) (j : Fin 4) : Fin 2 → ℕ :=
  match j with | 0 => k0_off14 c | 1 => k0_off15 c | 2 => k0_off16 c | 3 => k0_off17 c

theorem ownOff_inb (c : Dev nD) (j : Fin 4) : ∀ a, ownOff c j a + S256x256.size a ≤ S1024x1024.size a := by
  revert c j; decide
theorem tileOff_inb (c : Dev nD) (j : Fin 4) : ∀ a, tileOff c j a + S256x256.size a ≤ S1024x1024.size a := by
  revert c j; decide
theorem zbOff_inb (c : Dev nD) (j : Fin 4) : ∀ a, zbOff c j a + S128x256.size a ≤ S1024x1024.size a := by
  revert c j; decide
theorem xbOff_inb (c : Dev nD) (j : Fin 4) : ∀ a, xbOff c j a + S128x256.size a ≤ S1024x1024.size a := by
  revert c j; decide

abbrev ownR (c : Dev nD) (j : Fin 4) : Rect S1024x1024 := Rect.unit (s := S1024x1024) (ownOff c j) S256x256.size (ownOff_inb c j)
abbrev oTile (c : Dev nD) (j : Fin 4) : Memref sig .tc .vmem S256x256 .f32 := oM.slice (Rect.unit (s := S1024x1024) (tileOff c j) S256x256.size (tileOff_inb c j)) (fun _ => rfl)
abbrev oZb (c : Dev nD) (j : Fin 4) : Memref sig .tc .vmem S128x256 .f32 := oM.slice (Rect.unit (s := S1024x1024) (zbOff c j) S128x256.size (zbOff_inb c j)) (fun _ => rfl)
abbrev oXb (c : Dev nD) (j : Fin 4) : Memref sig .tc .vmem S128x256 .f32 := oM.slice (Rect.unit (s := S1024x1024) (xbOff c j) S128x256.size (xbOff_inb c j)) (fun _ => rfl)

/-! ## Semaphores and devices -/

/-- Slot `j` of the `k`-th array of four semaphores. -/
abbrev dsem (k : Fin 10) (j : Fin 4) : DmaSem sig := ⟨4 + 4 * k.val + j.val, by show _ < 44; omega⟩
/-- The semaphores of the local copies: two for the slots of `W`, one for the rows of `dy`. -/
abbrev lsem (s : Fin 3) : DmaSem sig := ⟨1 + s.val, by show _ < 44; omega⟩
abbrev wsem (s : Fin 2) : DmaSem sig := ⟨1 + s.val, by show _ < 44; omega⟩
/-- The barrier semaphore. -/
abbrev barS : Sem sig := barrier0

def yDev (c : Dev nD) (j : Fin 4) : Dev nD :=
  match j with | 0 => ⟨k0_dev4 c, k0_dev4_lt c⟩ | 1 => ⟨k0_dev5 c, k0_dev5_lt c⟩ | 2 => ⟨k0_dev6 c, k0_dev6_lt c⟩ | 3 => ⟨k0_dev7 c, k0_dev7_lt c⟩
def xDev (c : Dev nD) (j : Fin 4) : Dev nD :=
  match j with | 0 => ⟨k0_dev8 c, k0_dev8_lt c⟩ | 1 => ⟨k0_dev10 c, k0_dev10_lt c⟩ | 2 => ⟨k0_dev12 c, k0_dev12_lt c⟩ | 3 => ⟨k0_dev14 c, k0_dev14_lt c⟩
def zaDev (c : Dev nD) (j : Fin 4) : Dev nD :=
  match j with | 0 => ⟨k0_dev9 c, k0_dev9_lt c⟩ | 1 => ⟨k0_dev11 c, k0_dev11_lt c⟩ | 2 => ⟨k0_dev13 c, k0_dev13_lt c⟩ | 3 => ⟨k0_dev15 c, k0_dev15_lt c⟩
def zbDev (c : Dev nD) (j : Fin 4) : Dev nD :=
  match j with | 0 => ⟨k0_dev16 c, k0_dev16_lt c⟩ | 1 => ⟨k0_dev17 c, k0_dev17_lt c⟩ | 2 => ⟨k0_dev18 c, k0_dev18_lt c⟩ | 3 => ⟨k0_dev19 c, k0_dev19_lt c⟩
def xbDev (c : Dev nD) (j : Fin 4) : Dev nD :=
  match j with | 0 => ⟨k0_dev20 c, k0_dev20_lt c⟩ | 1 => ⟨k0_dev21 c, k0_dev21_lt c⟩ | 2 => ⟨k0_dev22 c, k0_dev22_lt c⟩ | 3 => ⟨k0_dev23 c, k0_dev23_lt c⟩

/-! ## The steps -/

variable (F) in
/-- A program of the kernel. -/
abbrev Pg (α : Type) := Prog (TpuEff nD τ sig (Elt F) Λ₀ .tc) α

/-- Start copying the device's rows of `dy`. -/
def startDy (c : Dev nD) : Pg F PUnit :=
  Prog.lift (.enqueueDma (dyRow c) (.here bM) (.dma (lsem 2)) (View.wordExact_bits rfl) (Memref.isWhole_whole cc0_scratch0).wordExact ⟨Or.inl rfl, trivial⟩)
/-- Start copying chunk `j` of `W` into its slot. -/
def startW (j : Fin 4) : Pg F PUnit :=
  Prog.lift (.enqueueDma (wChunk j) (.here (wSlot (par j))) (.dma (wsem (par j))) (View.wordExact_bits rfl) ((View.wordExact_bits rfl).reshape _ _) ⟨Or.inl rfl, trivial⟩)
/-- Signal the three neighbours, then wait for their three signals. -/
def barrier (c : Dev nD) : Pg F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32
def waitDy (c : Dev nD) : Pg F PUnit :=
  Prog.lift (.waitDma2 (lsem 2) (dyRow c) bM (View.wordExact_bits rfl) (Memref.isWhole_whole cc0_scratch0).wordExact)
def waitW (j : Fin 4) : Pg F PUnit :=
  Prog.lift (.waitDma2 (wsem (par j)) (wChunk j) (wSlot (par j)) (View.wordExact_bits rfl) ((View.wordExact_bits rfl).reshape _ _))
/-- Multiply the rows of `dy` with chunk `j` of `W` into the slot of partial products. -/
def mulW (j : Fin 4) : Pg F PUnit := do
  let a : Vec F S256x4096 .f32 ← Prog.lift (.load bM (Rect.unit (s := S256x4096) ![0, 0] S256x4096.size inb_S256x4096_S256x4096_0_0).toLoadRect (View.loadsAt_vmem h_S256x4096))
  let w : Vec F S1x256x4096 .f32 ← Prog.lift (.load vM (wslotR (par j)).toLoadRect (View.loadsAt_vmem h_S1x256x4096))
  let _ : Vec F S1x256x256 .f32 ← Prog.lift (.load pM (slotR j).toLoadRect (View.loadsAt_vmem h_S1x256x256))
  Prog.lift (.store pM (slotR j) (k0_pay1 a w) Finset.univ (View.stores_vmem_bits_univ h_S1x256x256 rfl) (.inl rfl))
/-- Send partial product `j` to the neighbour along `y`. -/
def sendY (c : Dev nD) (j : Fin 4) : Pg F PUnit :=
  Prog.lift (.enqueueDma (pSlot j) (.remote (Dev.tc (yDev c j)) (rSlot j) (.dma (dsem 0 j))) (.dma (dsem 1 j)) ((View.wordExact_bits rfl).reshape _ _) ((View.wordExact_bits rfl).reshape _ _) ⟨⟨rfl, Or.inl rfl⟩, trivial⟩)
def waitY (j : Fin 4) : Pg F PUnit := do
  Prog.lift (.waitDma2 (dsem 0 j) (rSlot j) (pSlot j) ((View.wordExact_bits rfl).reshape _ _) ((View.wordExact_bits rfl).reshape _ _))
  Prog.lift (.waitDma2 (dsem 1 j) (pSlot j) (rSlot j) ((View.wordExact_bits rfl).reshape _ _) ((View.wordExact_bits rfl).reshape _ _))
/-- Add the two partial products of chunk `j` into the device's own tile. -/
def addOwn (c : Dev nD) (j : Fin 4) : Pg F PUnit := do
  let a : Vec F S1x256x256 .f32 ← Prog.lift (.load pM (slotR j).toLoadRect (View.loadsAt_vmem h_S1x256x256))
  let b : Vec F S1x256x256 .f32 ← Prog.lift (.load rM (slotR j).toLoadRect (View.loadsAt_vmem h_S1x256x256))
  let _ : Vec F S256x256 .f32 ← Prog.lift (.load oM (ownR c j).toLoadRect (View.loadsAt_vmem h_S256x256))
  Prog.lift (.store oM (ownR c j) (k0_pay6 a b) Finset.univ (View.stores_vmem_bits_univ h_S256x256 rfl) (.inl rfl))
/-- Send the tile to the neighbours along `x` and along `z`. -/
def sendX (c : Dev nD) (j : Fin 4) : Pg F PUnit :=
  Prog.lift (.enqueueDma (oTile c j) (.remote (Dev.tc (xDev c j)) (oTile c j) (.dma (dsem 2 j))) (.dma (dsem 3 j)) (View.wordExact_bits rfl) (View.wordExact_bits rfl) ⟨⟨rfl, Or.inl rfl⟩, trivial⟩)
def sendZa (c : Dev nD) (j : Fin 4) : Pg F PUnit :=
  Prog.lift (.enqueueDma (oTile c j) (.remote (Dev.tc (zaDev c j)) (oTile c j) (.dma (dsem 4 j))) (.dma (dsem 5 j)) (View.wordExact_bits rfl) (View.wordExact_bits rfl) ⟨⟨rfl, Or.inl rfl⟩, trivial⟩)
def waitX (c : Dev nD) (j : Fin 4) : Pg F PUnit := do
  Prog.lift (.waitDma2 (dsem 2 j) (oTile c j) (oTile c j) (View.wordExact_bits rfl) (View.wordExact_bits rfl))
  Prog.lift (.waitDma2 (dsem 3 j) (oTile c j) (oTile c j) (View.wordExact_bits rfl) (View.wordExact_bits rfl))
def waitZa (c : Dev nD) (j : Fin 4) : Pg F PUnit := do
  Prog.lift (.waitDma2 (dsem 4 j) (oTile c j) (oTile c j) (View.wordExact_bits rfl) (View.wordExact_bits rfl))
  Prog.lift (.waitDma2 (dsem 5 j) (oTile c j) (oTile c j) (View.wordExact_bits rfl) (View.wordExact_bits rfl))
/-- Forward the upper half of what came along `x` to the neighbour along `z`. -/
def sendZb (c : Dev nD) (j : Fin 4) : Pg F PUnit :=
  Prog.lift (.enqueueDma (oZb c j) (.remote (Dev.tc (zbDev c j)) (oZb c j) (.dma (dsem 6 j))) (.dma (dsem 7 j)) (View.wordExact_bits rfl) (View.wordExact_bits rfl) ⟨⟨rfl, Or.inl rfl⟩, trivial⟩)
/-- Forward the lower half of what came along `z` to the neighbour along `x`. -/
def sendXb (c : Dev nD) (j : Fin 4) : Pg F PUnit :=
  Prog.lift (.enqueueDma (oXb c j) (.remote (Dev.tc (xbDev c j)) (oXb c j) (.dma (dsem 8 j))) (.dma (dsem 9 j)) (View.wordExact_bits rfl) (View.wordExact_bits rfl) ⟨⟨rfl, Or.inl rfl⟩, trivial⟩)
def waitZb (c : Dev nD) (j : Fin 4) : Pg F PUnit := do
  Prog.lift (.waitDma2 (dsem 6 j) (oZb c j) (oZb c j) (View.wordExact_bits rfl) (View.wordExact_bits rfl))
  Prog.lift (.waitDma2 (dsem 7 j) (oZb c j) (oZb c j) (View.wordExact_bits rfl) (View.wordExact_bits rfl))
def waitXb (c : Dev nD) (j : Fin 4) : Pg F PUnit := do
  Prog.lift (.waitDma2 (dsem 8 j) (oXb c j) (oXb c j) (View.wordExact_bits rfl) (View.wordExact_bits rfl))
  Prog.lift (.waitDma2 (dsem 9 j) (oXb c j) (oXb c j) (View.wordExact_bits rfl) (View.wordExact_bits rfl))

/-! ## The stages -/

/-- The four instances of an indexed step, in order. -/
def four (p : Fin 4 → Pg F PUnit) : Pg F PUnit := do
  p 0; p 1; p 2; p 3

/-- The partial products, with the next chunk of `W` copied while one is multiplied. -/
def stageMul (c : Dev nD) : Pg F PUnit := do
  waitDy c
  waitW 0; startW 1; mulW 0; sendY c 0
  waitW 1; startW 2; mulW 1; sendY c 1
  waitW 2; startW 3; mulW 2; sendY c 2
  waitW 3; mulW 3; sendY c 3

def stepOwn (c : Dev nD) (j : Fin 4) : Pg F PUnit := do
  waitY j; addOwn c j; sendX c j; sendZa c j
def stepX (c : Dev nD) (j : Fin 4) : Pg F PUnit := do
  waitX c j; sendZb c j
def stepZ (c : Dev nD) (j : Fin 4) : Pg F PUnit := do
  waitZa c j; sendXb c j
def stepEnd (c : Dev nD) (j : Fin 4) : Pg F PUnit := do
  waitZb c j; waitXb c j

/-- The kernel's body at device `c`. -/
def stages (c : Dev nD) : Pg F PUnit := do
  startDy c; startW 0
  barrier c
  stageMul c
  four (stepOwn c)
  four (stepX c)
  four (stepZ c)
  four (stepEnd c)

set_option maxRecDepth 65536 in
set_option maxHeartbeats 4000000 in
/-- The printed body reads the device's identity and then runs the stages. -/
theorem body_eq : bodyAt0 (F := F) t0_0 = (do let c ← Prog.lift .deviceId; stages c) := by
  rfl

end Cert.KernelIdeal.Mm

end
-- ==== Proof.Ideal.Mesh.lean ====
/- The mesh of eight devices and the pieces of the result: each device's neighbours, where each copied piece lies, and
   how the twenty pieces tile the result. -/
module

public import proofs.«01_k».proof.Proof.Ideal.Body
public import Idealize.ShloMosaic.Lib.ViewIndex

@[expose] public section

noncomputable section

namespace Cert.KernelIdeal.Mm

open Cert.KernelIdeal Cert.KernelIdeal.Gen
open Idealize.ShloMosaic Idealize.ShloMosaic.TcCoe
open Idealize.SL Idealize.SL.Sem

/-! ## Neighbours -/

/-- The neighbour along `x`, -/
def xn (c : Dev nD) : Dev nD := ⟨(2 * (c.val / 2 % 2) + c.val % 2 + 4) - 4 * (c.val / 4), by
  have h : c.val < 8 := c.isLt
  show _ < 8; omega⟩
/-- along `y`, -/
def yn (c : Dev nD) : Dev nD := ⟨(4 * (c.val / 4) + c.val % 2 + 2) - 2 * (c.val / 2 % 2), by
  have h : c.val < 8 := c.isLt
  show _ < 8; omega⟩
/-- along `z`. -/
def zn (c : Dev nD) : Dev nD := ⟨(4 * (c.val / 4) + 2 * (c.val / 2 % 2) + 1) - c.val % 2, by
  have h : c.val < 8 := c.isLt
  show _ < 8; omega⟩

theorem xn_xn (c : Dev nD) : xn (xn c) = c := by revert c; decide
theorem yn_yn (c : Dev nD) : yn (yn c) = c := by revert c; decide
theorem zn_zn (c : Dev nD) : zn (zn c) = c := by revert c; decide

theorem bar1_eq (c : Dev nD) : (⟨k0_dev1 c, k0_dev1_lt c⟩ : Dev nD) = xn c := Fin.ext (k0_dev1_eq c)
theorem bar2_eq (c : Dev nD) : (⟨k0_dev2 c, k0_dev2_lt c⟩ : Dev nD) = yn c := Fin.ext (k0_dev2_eq c)
theorem bar3_eq (c : Dev nD) : (⟨k0_dev3 c, k0_dev3_lt c⟩ : Dev nD) = zn c := Fin.ext (k0_dev3_eq c)
theorem yDev_eq (c : Dev nD) (j : Fin 4) : yDev c j = yn c := by revert c j; decide +kernel
theorem xDev_eq (c : Dev nD) (j : Fin 4) : xDev c j = xn c := by revert c j; decide +kernel
theorem zaDev_eq (c : Dev nD) (j : Fin 4) : zaDev c j = zn c := by revert c j; decide +kernel
theorem zbDev_eq (c : Dev nD) (j : Fin 4) : zbDev c j = zn c := by revert c j; decide +kernel
theorem xbDev_eq (c : Dev nD) (j : Fin 4) : xbDev c j = xn c := by revert c j; decide +kernel

/-! ## Where the pieces lie -/

/-- The first row of the device's own tile row. -/
abbrev row (c : Dev nD) : ℕ := 512 * (c.val % 2) + 256 * (c.val / 4)

theorem ownOff_eq (c : Dev nD) (j : Fin 4) : ownOff c j = ![row c, 256 * j.val] := by revert c j; decide +kernel
theorem tileOff_eq (c : Dev nD) (j : Fin 4) : tileOff c j = ![row c, 256 * j.val] := by revert c j; decide +kernel
theorem zbOff_eq (c : Dev nD) (j : Fin 4) : zbOff c j = ![row (xn c), 256 * j.val] := by revert c j; decide +kernel
theorem xbOff_eq (c : Dev nD) (j : Fin 4) : xbOff c j = ![row (zn c) + 128, 256 * j.val] := by revert c j; decide +kernel

/-- An index of the result. -/
abbrev OIx : Type := S1024x1024.Idx
/-- Its row and its column. -/
abbrev oRow (i : OIx) : ℕ := (i (0 : Fin 2)).val
abbrev oCol (i : OIx) : ℕ := (i (1 : Fin 2)).val

theorem oRow_lt (i : OIx) : oRow i < 1024 := (i (0 : Fin 2)).isLt
theorem oCol_lt (i : OIx) : oCol i < 1024 := (i (1 : Fin 2)).isLt

theorem mem_rect {off size : Fin 2 → ℕ} {inb} {i : OIx} :
    i ∈ (Rect.unit (s := S1024x1024) off size inb).set
      ↔ (off 0 ≤ oRow i ∧ oRow i < off 0 + size 0) ∧ (off 1 ≤ oCol i ∧ oCol i < off 1 + size 1) := by
  rw [Rect.mem_set_unit]
  exact ⟨fun h => ⟨h (0 : Fin 2), h (1 : Fin 2)⟩, fun h a => by
    match a with
    | ⟨0, _⟩ => exact h.1
    | ⟨1, _⟩ => exact h.2⟩

/-- The elements of the device's own tile for chunk `j`, -/
abbrev tileS (c : Dev nD) (j : Fin 4) : Finset OIx := (oTile c j).view.set
/-- of the upper half it forwards along `z`, -/
abbrev zbS (c : Dev nD) (j : Fin 4) : Finset OIx := (oZb c j).view.set
/-- of the lower half it forwards along `x`. -/
abbrev xbS (c : Dev nD) (j : Fin 4) : Finset OIx := (oXb c j).view.set

theorem slice_set (r : Rect S1024x1024) : (((View.whole cc0_stg0_0).slice r).set : Finset OIx) = r.set := View.set_slice_whole cc0_stg0_0 r

theorem mem_tileS {c : Dev nD} {j : Fin 4} {i : OIx} :
    i ∈ tileS c j ↔ (row c ≤ oRow i ∧ oRow i < row c + 256) ∧ (256 * j.val ≤ oCol i ∧ oCol i < 256 * j.val + 256) := by
  refine (iff_of_eq (congrArg (i ∈ ·) (slice_set _))).trans (mem_rect.trans ?_)
  rw [tileOff_eq]; rfl
theorem mem_zbS {c : Dev nD} {j : Fin 4} {i : OIx} :
    i ∈ zbS c j ↔ (row (xn c) ≤ oRow i ∧ oRow i < row (xn c) + 128) ∧ (256 * j.val ≤ oCol i ∧ oCol i < 256 * j.val + 256) := by
  refine (iff_of_eq (congrArg (i ∈ ·) (slice_set _))).trans (mem_rect.trans ?_)
  rw [zbOff_eq]; rfl
theorem mem_xbS {c : Dev nD} {j : Fin 4} {i : OIx} :
    i ∈ xbS c j ↔ (row (zn c) + 128 ≤ oRow i ∧ oRow i < row (zn c) + 128 + 128) ∧ (256 * j.val ≤ oCol i ∧ oCol i < 256 * j.val + 256) := by
  refine (iff_of_eq (congrArg (i ∈ ·) (slice_set _))).trans (mem_rect.trans ?_)
  rw [xbOff_eq]; rfl

theorem ownR_set (c : Dev nD) (j : Fin 4) : ((oM.access (ownR c j)).set : Finset OIx) = tileS c j := by
  ext i
  refine Iff.trans ?_ mem_tileS.symm
  refine (iff_of_eq (congrArg (i ∈ ·) (slice_set _))).trans (mem_rect.trans ?_)
  rw [ownOff_eq]; rfl

theorem zbS_subset (c : Dev nD) (j : Fin 4) : zbS c j ⊆ tileS (xn c) j := fun i h => by
  rw [mem_zbS] at h; rw [mem_tileS]; omega
theorem xbS_subset (c : Dev nD) (j : Fin 4) : xbS c j ⊆ tileS (zn c) j := fun i h => by
  rw [mem_xbS] at h; rw [mem_tileS]; omega

/-- The twenty pieces of the result at device `c`: its own tiles, the tiles its neighbours along `x` and `z` send, and the
    half tiles they forward. -/
def piece (c : Dev nD) (aj : Fin 5 × Fin 4) : Finset OIx :=
  match aj.1 with
  | 0 => tileS c aj.2 | 1 => tileS (xn c) aj.2 | 2 => tileS (zn c) aj.2 | 3 => zbS (zn c) aj.2 | 4 => xbS (xn c) aj.2

/-- The first row of each kind of piece and its number of rows. -/
def pieceRow (c : Dev nD) (a : Fin 5) : ℕ :=
  match a with
  | 0 => row c | 1 => row (xn c) | 2 => row (zn c) | 3 => row (xn (zn c)) | 4 => row (zn (xn c)) + 128
def pieceLen (a : Fin 5) : ℕ :=
  match a with
  | 0 => 256 | 1 => 256 | 2 => 256 | 3 => 128 | 4 => 128

theorem mem_piece {c : Dev nD} {aj : Fin 5 × Fin 4} {i : OIx} :
    i ∈ piece c aj ↔ (pieceRow c aj.1 ≤ oRow i ∧ oRow i < pieceRow c aj.1 + pieceLen aj.1)
      ∧ (256 * aj.2.val ≤ oCol i ∧ oCol i < 256 * aj.2.val + 256) := by
  obtain ⟨a, j⟩ := aj
  fin_cases a
  · exact mem_tileS
  · exact mem_tileS
  · exact mem_tileS
  · exact mem_zbS
  · exact mem_xbS

theorem pieceRow_apart (c : Dev nD) (a b : Fin 5) (h : a ≠ b) :
    pieceRow c a + pieceLen a ≤ pieceRow c b ∨ pieceRow c b + pieceLen b ≤ pieceRow c a := by
  revert c a b; decide +kernel

theorem pieceRow_mod (c : Dev nD) (a : Fin 5) (q : Fin 8) :
    ∃ a : Fin 5, pieceRow c a ≤ 128 * q.val ∧ 128 * q.val + 128 ≤ pieceRow c a + pieceLen a := by
  revert c q; decide +kernel

theorem piece_disjoint (c : Dev nD) : ∀ t ∈ (Finset.univ : Finset (Fin 5 × Fin 4)), ∀ t' ∈ (Finset.univ : Finset (Fin 5 × Fin 4)),
    t ≠ t' → Disjoint (piece c t) (piece c t') := by
  rintro ⟨a, j⟩ - ⟨b, k⟩ - hne
  refine Finset.disjoint_left.mpr fun i h h' => ?_
  rw [mem_piece] at h h'
  by_cases hab : a = b
  · subst hab
    have : j.val ≠ k.val := fun e => hne (by rw [Fin.ext e])
    dsimp only at h h'; omega
  · have := pieceRow_apart c a b hab
    dsimp only at h h'; omega

theorem piece_cover (c : Dev nD) : (Finset.univ : Finset (Fin 5 × Fin 4)).biUnion (piece c) = (Finset.univ : Finset OIx) := by
  refine Finset.eq_univ_iff_forall.mpr fun i => Finset.mem_biUnion.mpr ?_
  have hr := oRow_lt i
  have hc := oCol_lt i
  obtain ⟨a, h1, h2⟩ := pieceRow_mod c 0 ⟨oRow i / 128, by omega⟩
  refine ⟨(a, ⟨oCol i / 256, by omega⟩), Finset.mem_univ _, mem_piece.mpr ?_⟩
  dsimp only at h1 h2 ⊢
  omega

/-! ## Which device computes a row -/

/-- The device, among those agreeing with `c` along `y`, whose tile row holds row `r`. -/
def owner (c : Dev nD) (r : ℕ) : Dev nD := ⟨4 * (r / 256 % 2) + 2 * (c.val / 2 % 2) + r / 512 % 2, by show _ < 8; omega⟩

theorem owner_xn (c : Dev nD) (r : ℕ) : owner (xn c) r = owner c r := by
  have h : c.val < 8 := c.isLt
  refine Fin.ext ?_; dsimp only [owner, xn]; omega
theorem owner_zn (c : Dev nD) (r : ℕ) : owner (zn c) r = owner c r := by
  have h : c.val < 8 := c.isLt
  refine Fin.ext ?_; dsimp only [owner, zn]; omega
theorem owner_row (c : Dev nD) (r : ℕ) (h1 : row c ≤ r) (h2 : r < row c + 256) : owner c r = c := by
  have h : c.val < 8 := c.isLt
  refine Fin.ext ?_
  have e1 : c.val / 2 / 2 = c.val / 4 := Nat.div_div_eq_div_mul ..
  have e2 : r / 256 / 2 = r / 512 := Nat.div_div_eq_div_mul ..
  have e3 : r / 512 = c.val % 2 := by unfold row at h1 h2; omega
  have e4 : r / 256 = 2 * (c.val % 2) + c.val / 4 := by unfold row at h1 h2; omega
  dsimp only [owner]; omega

end Cert.KernelIdeal.Mm

end
-- ==== Proof.Ideal.Contents.lean ====
/- What the buffers hold: the device's rows of `dy` and chunks of `W`, the partial products, the tiles and the assembled
   result; and what a copied or stored piece leaves in a buffer. -/
module

public import proofs.«01_k».proof.Proof.Ideal.Mesh

@[expose] public section

noncomputable section

namespace Cert.KernelIdeal.Mm

open Cert.KernelIdeal Cert.KernelIdeal.Gen
open Idealize.ShloMosaic Idealize.ShloMosaic.TcCoe
open Idealize.SL Idealize.SL.Sem

variable {F : FTy → Type} [FloatOps F]

/-! ## The elements of the slots -/

/-- Slot `j` of a buffer of four tiles, -/
abbrev slotS (j : Fin 4) : Finset S4x256x256.Idx := (slotR j).set
/-- slot `s` of the buffer of two chunks of `W`, -/
abbrev wslotS (s : Fin 2) : Finset S2x256x4096.Idx := (wslotR s).set
/-- chunk `j` of `W`, -/
abbrev wchunkS (j : Fin 4) : Finset S1024x4096.Idx := (wChunk j).view.set
/-- the device's rows of `dy`. -/
abbrev dyS (c : Dev nD) : Finset S1024x4096.Idx := (dyRow c).view.set

theorem pSlot_set (j : Fin 4) : ((pSlot j).view.set : Finset S4x256x256.Idx) = slotS j :=
  (View.set_reshape _ _).trans (View.set_slice_whole cc0_scratch2 (slotR j))
theorem rSlot_set (j : Fin 4) : ((rSlot j).view.set : Finset S4x256x256.Idx) = slotS j :=
  (View.set_reshape _ _).trans (View.set_slice_whole cc0_scratch3 (slotR j))
theorem wSlot_set (s : Fin 2) : ((wSlot s).view.set : Finset S2x256x4096.Idx) = wslotS s :=
  (View.set_reshape _ _).trans (View.set_slice_whole cc0_scratch1 (wslotR s))
theorem pAcc_set (j : Fin 4) : ((pM.access (slotR j)).set : Finset S4x256x256.Idx) = slotS j := View.set_slice_whole cc0_scratch2 (slotR j)
theorem rAcc_set (j : Fin 4) : ((rM.access (slotR j)).set : Finset S4x256x256.Idx) = slotS j := View.set_slice_whole cc0_scratch3 (slotR j)
theorem wAcc_set (s : Fin 2) : ((vM.access (wslotR s)).set : Finset S2x256x4096.Idx) = wslotS s := View.set_slice_whole cc0_scratch1 (wslotR s)

theorem slot_disjoint {j k : Fin 4} (h : j ≠ k) : Disjoint (slotS j) (slotS k) := by
  refine Finset.disjoint_left.mpr fun i hi hk => h (Fin.ext ?_)
  have h1 := Rect.mem_set_unit.mp hi (0 : Fin 3)
  have h2 := Rect.mem_set_unit.mp hk (0 : Fin 3)
  have e1 : j.val ≤ (i (0 : Fin 3)).val ∧ (i (0 : Fin 3)).val < j.val + 1 := h1
  have e2 : k.val ≤ (i (0 : Fin 3)).val ∧ (i (0 : Fin 3)).val < k.val + 1 := h2
  omega
theorem slot_cover : (Finset.univ : Finset (Fin 4)).biUnion slotS = Finset.univ := by
  refine Finset.eq_univ_iff_forall.mpr fun i => Finset.mem_biUnion.mpr ?_
  have h0 : (i (0 : Fin 3)).val < 4 := (i (0 : Fin 3)).isLt
  have h1 : (i (1 : Fin 3)).val < 256 := (i (1 : Fin 3)).isLt
  have h2 : (i (2 : Fin 3)).val < 256 := (i (2 : Fin 3)).isLt
  refine ⟨⟨(i (0 : Fin 3)).val, h0⟩, Finset.mem_univ _, Rect.mem_set_unit.mpr fun a => ?_⟩
  match a with
  | ⟨0, _⟩ => exact ⟨le_rfl, Nat.lt_succ_self _⟩
  | ⟨1, _⟩ => exact ⟨Nat.zero_le _, by show (i (1 : Fin 3)).val < 0 + 256; omega⟩
  | ⟨2, _⟩ => exact ⟨Nat.zero_le _, by show (i (2 : Fin 3)).val < 0 + 256; omega⟩
theorem wslot_disjoint {j k : Fin 2} (h : j ≠ k) : Disjoint (wslotS j) (wslotS k) := by
  refine Finset.disjoint_left.mpr fun i hi hk => h (Fin.ext ?_)
  have e1 : j.val ≤ (i (0 : Fin 3)).val ∧ (i (0 : Fin 3)).val < j.val + 1 := Rect.mem_set_unit.mp hi (0 : Fin 3)
  have e2 : k.val ≤ (i (0 : Fin 3)).val ∧ (i (0 : Fin 3)).val < k.val + 1 := Rect.mem_set_unit.mp hk (0 : Fin 3)
  omega
theorem wslot_cover : (Finset.univ : Finset (Fin 2)).biUnion wslotS = Finset.univ := by
  refine Finset.eq_univ_iff_forall.mpr fun i => Finset.mem_biUnion.mpr ?_
  have h0 : (i (0 : Fin 3)).val < 2 := (i (0 : Fin 3)).isLt
  have h1 : (i (1 : Fin 3)).val < 256 := (i (1 : Fin 3)).isLt
  have h2 : (i (2 : Fin 3)).val < 4096 := (i (2 : Fin 3)).isLt
  refine ⟨⟨(i (0 : Fin 3)).val, h0⟩, Finset.mem_univ _, Rect.mem_set_unit.mpr fun a => ?_⟩
  match a with
  | ⟨0, _⟩ => exact ⟨le_rfl, Nat.lt_succ_self _⟩
  | ⟨1, _⟩ => exact ⟨Nat.zero_le _, by show (i (1 : Fin 3)).val < 0 + 256; omega⟩
  | ⟨2, _⟩ => exact ⟨Nat.zero_le _, by show (i (2 : Fin 3)).val < 0 + 4096; omega⟩

theorem wchunk_disjoint {j k : Fin 4} (h : j ≠ k) : Disjoint (wchunkS j) (wchunkS k) := by
  refine View.disjoint_slice (Finset.disjoint_left.mpr fun i hi hk => h (Fin.ext ?_))
  have e1 : 256 * j.val ≤ (i (0 : Fin 2)).val ∧ (i (0 : Fin 2)).val < 256 * j.val + 256 := Rect.mem_set_unit.mp hi (0 : Fin 2)
  have e2 : 256 * k.val ≤ (i (0 : Fin 2)).val ∧ (i (0 : Fin 2)).val < 256 * k.val + 256 := Rect.mem_set_unit.mp hk (0 : Fin 2)
  omega
theorem wchunk_cover : (Finset.univ : Finset (Fin 4)).biUnion wchunkS = Finset.univ := by
  refine Finset.eq_univ_iff_forall.mpr fun i => Finset.mem_biUnion.mpr ?_
  have h0 : (i (0 : Fin 2)).val < 1024 := (i (0 : Fin 2)).isLt
  have h1 : (i (1 : Fin 2)).val < 4096 := (i (1 : Fin 2)).isLt
  refine ⟨⟨(i (0 : Fin 2)).val / 256, by omega⟩, Finset.mem_univ _, ?_⟩
  rw [show wchunkS ⟨(i (0 : Fin 2)).val / 256, by omega⟩ = _ from View.set_slice_whole main_arg1 _]
  refine Rect.mem_set_unit.mpr fun a => ?_
  match a with
  | ⟨0, _⟩ =>
    show 256 * ((i (0 : Fin 2)).val / 256) ≤ (i (0 : Fin 2)).val ∧ (i (0 : Fin 2)).val < 256 * ((i (0 : Fin 2)).val / 256) + 256
    omega
  | ⟨1, _⟩ => exact ⟨Nat.zero_le _, by show (i (1 : Fin 2)).val < 0 + 4096; omega⟩

/-! ## The values -/

section Values
variable (m : (ℓ : Loc nD τ sig) → Buf (Elt F) ℓ)

/-- The device's blocks of `dy` and `W`. -/
def dyA (c : Dev nD) : (main_arg0 : Ref sig .tc).ty.Contents (Elt F) := m ((c : Thread nD τ).loc main_arg0)
def wA (c : Dev nD) : (main_arg1 : Ref sig .tc).ty.Contents (Elt F) := m ((c : Thread nD τ).loc main_arg1)
/-- The rows of `dy` the device multiplies, -/
def dyBlk (c : Dev nD) : Vec F S256x4096 .f32 := (dyRow c).view.read (Elt F) (dyA m c)
/-- chunk `j` of `W`, -/
def wBlk (c : Dev nD) (j : Fin 4) : Vec F S256x4096 .f32 := (wChunk j).view.read (Elt F) (wA m c)
/-- the same as it is loaded from a slot. -/
def wv (c : Dev nD) (j : Fin 4) : Vec F S1x256x4096 .f32 := fun y =>
  wBlk m c j ((Shape.reshapeEquiv (s := S1x256x4096) (s' := S256x4096) squeezes_S1x256x4096_S256x4096.numel_eq).symm y)
/-- The device's partial product for chunk `j`, -/
def part (c : Dev nD) (j : Fin 4) : Vec F S1x256x256 .f32 := k0_pay1 (dyBlk m c) (wv m c j)
/-- its tile, the sum with its `y` neighbour's, -/
def tile (c : Dev nD) (j : Fin 4) : Vec F S256x256 .f32 := k0_pay6 (part m c j) (part m (yn c) j)
/-- An index of a tile from a row and a column. -/
def tileIx (r k : ℕ) : S256x256.Idx := fun a => match a with
  | ⟨0, _⟩ => (⟨r % 256, Nat.mod_lt _ (by decide)⟩ : Fin 256)
  | ⟨1, _⟩ => (⟨k % 256, Nat.mod_lt _ (by decide)⟩ : Fin 256)
/-- The assembled result: each row's tile is its owner's. -/
def outAt (c : Dev nD) : (cc0_stg0_0 : Ref sig .tc).ty.Contents (Elt F) := fun i =>
  tile m (owner c (oRow i)) ⟨oCol i / 256, by have := oCol_lt i; omega⟩ (tileIx (oRow i) (oCol i))

theorem outAt_xn (c : Dev nD) : outAt m (xn c) = outAt m c := by
  funext i; unfold outAt; rw [owner_xn]
theorem outAt_zn (c : Dev nD) : outAt m (zn c) = outAt m c := by
  funext i; unfold outAt; rw [owner_zn]

end Values

/-! ## What a copy or a store leaves -/

/-- A chunk of `W` copied into a slot is loaded from it. -/
theorem read_wslot (s : Fin 2) (fd : (cc0_scratch1 : Ref sig .tc).ty.Contents (Elt F)) (w : S256x4096.Idx → Elt F .f32) :
    (vM.access (wslotR s)).read (Elt F) ((wSlot s).view.write (Elt F) fd w Finset.univ)
      = fun y => w ((Shape.reshapeEquiv (s := S1x256x4096) (s' := S256x4096) squeezes_S1x256x4096_S256x4096.numel_eq).symm y) := by
  funext y
  have h := View.read_write_reshape (Val := Elt F) (vM.view.slice (wslotR s)) squeezes_S1x256x4096_S256x4096.numel_eq fd w
    ((Shape.reshapeEquiv (s := S1x256x4096) (s' := S256x4096) squeezes_S1x256x4096_S256x4096.numel_eq).symm y)
  rw [Equiv.apply_symm_apply] at h
  exact h

/-- A partial product copied between slots is loaded as it was. -/
theorem read_rslot (j : Fin 4) (fs : (cc0_scratch2 : Ref sig .tc).ty.Contents (Elt F)) (fd : (cc0_scratch3 : Ref sig .tc).ty.Contents (Elt F)) :
    (rM.access (slotR j)).read (Elt F) ((rSlot j).view.write (Elt F) fd ((pSlot j).view.read (Elt F) fs) Finset.univ)
      = (pM.access (slotR j)).read (Elt F) fs := by
  funext y
  have h := View.read_write_reshape (Val := Elt F) (rM.view.slice (slotR j)) squeezes_S1x256x256_S256x256.numel_eq fd ((pSlot j).view.read (Elt F) fs)
    ((Shape.reshapeEquiv (s := S1x256x256) (s' := S256x256) squeezes_S1x256x256_S256x256.numel_eq).symm y)
  rw [Equiv.apply_symm_apply] at h
  refine h.trans ?_
  show (pM.view.slice (slotR j)).read (Elt F) fs (Shape.reshapeEquiv (s := S1x256x256) (s' := S256x256) squeezes_S1x256x256_S256x256.numel_eq
    ((Shape.reshapeEquiv (s := S1x256x256) (s' := S256x256) squeezes_S1x256x256_S256x256.numel_eq).symm y)) = _
  rw [Equiv.apply_symm_apply]

/-- Copying a piece of the result over the same piece leaves the source's values there. -/
theorem write_read_on {s : Shape} {e : EltTy} {sp : Space} (v : View sig .tc sp s e) (f g : v.ty.Contents (Elt F)) {i : v.ty.Idx} (hi : i ∈ v.set) :
    v.write (Elt F) f (v.read (Elt F) g) Finset.univ i = g i := by
  obtain ⟨x, -, rfl⟩ := Finset.mem_map.mp hi
  exact View.eq_of_read_eq (View.read_write_of_mem f _ (Finset.mem_univ x))

/-- The tile stored at the device's own piece is the result's values there. -/
theorem store_own (m : (ℓ : Loc nD τ sig) → Buf (Elt F) ℓ) (c : Dev nD) (j : Fin 4) (f : (cc0_stg0_0 : Ref sig .tc).ty.Contents (Elt F)) (i : OIx) (hi : i ∈ tileS c j) :
    (oM.access (ownR c j)).write (Elt F) f (tile m c j) Finset.univ i = outAt m c i := by
  have hm := mem_tileS.mp hi
  rw [← ownR_set] at hi
  obtain ⟨x, -, rfl⟩ := Finset.mem_map.mp hi
  refine (View.write_emb_of_mem (v := oM.access (ownR c j)) f (tile m c j) (Finset.mem_univ x)).trans ?_
  show tile m c j x = _
  have e0 : oRow ((oM.access (ownR c j)).emb x) = row c + (x (0 : Fin 2)).val := by
    show ownOff c j 0 + 1 * (x (0 : Fin 2)).val = _
    rw [ownOff_eq, Nat.one_mul]; rfl
  have e1 : oCol ((oM.access (ownR c j)).emb x) = 256 * j.val + (x (1 : Fin 2)).val := by
    show ownOff c j 1 + 1 * (x (1 : Fin 2)).val = _
    rw [ownOff_eq, Nat.one_mul]; rfl
  have h0 : (x (0 : Fin 2)).val < 256 := (x (0 : Fin 2)).isLt
  have h1 : (x (1 : Fin 2)).val < 256 := (x (1 : Fin 2)).isLt
  unfold outAt
  rw [owner_row c _ hm.1.1 hm.1.2]
  have hj : j.val = oCol ((oM.access (ownR c j)).emb x) / 256 := by rw [e1]; omega
  refine congr (congrArg (tile m c) (Fin.ext hj)) (funext fun a => ?_)
  · match a with
    | ⟨0, _⟩ => exact Fin.ext (by show (x (0 : Fin 2)).val = _ % 256; rw [e0]; unfold row; omega)
    | ⟨1, _⟩ => exact Fin.ext (by show (x (1 : Fin 2)).val = _ % 256; rw [e1]; omega)

end Cert.KernelIdeal.Mm

end
-- ==== Proof.Ideal.Schedule.lean ====
/- The protocol: which semaphore carries which duty, what each landing hands over, what each device owes, and in which
   order of levels the devices wait.

   Every semaphore is a cell of its device. The barrier's round has three duties of one unit, one per neighbour, each
   handing over the buffers that neighbour lets this device write. The two semaphores of `W` go through two rounds, all
   others through one round, each round a single duty of a whole copy: a sender's semaphore hands the source back, a
   receiver's hands over the piece written, with its contents. -/
module

public import proofs.«01_k».proof.Proof.Ideal.Contents
public import Idealize.ShloMosaic.Lib.Pipeline.Launch
public import Idealize.ShloMosaic.Lib.Pipeline.Kit
public import Idealize.ShloMosaic.Lib.Tactic

@[expose] public section

noncomputable section

namespace Cert.KernelIdeal.Mm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the cells, with three duty names; -/
abbrev RdAlg : Type := URounds (GSem nD τ sig) (Fin 3)
/-- beside the pipeline's own. -/
abbrev UAlg : Type := UR sig nD τ × RdAlg

local notation "𝕄" => MT nD τ sig Unit (Elt F) ℕ UAlg ℕ

abbrev EP : Emb (UR sig nD τ) (MT nD τ sig Unit (Elt F) ℕ UAlg ℕ) := embL
abbrev ER : Emb RdAlg (MT nD τ sig Unit (Elt F) ℕ UAlg ℕ) := embR

/-! ## The cells -/

/-- The kernel's own semaphores: three of local copies, ten arrays of four; -/
abbrev Own : Type := Fin 3 ⊕ Fin 10 × Fin 4
/-- with the barrier's. -/
abbrev Cl : Type := Unit ⊕ Own

abbrev osem : Own → SemLoc sig
  | .inl s => .dma (lsem s)
  | .inr kj => .dma (dsem kj.1 kj.2)
abbrev csem : Cl → SemLoc sig
  | .inl _ => .reg barS
  | .inr o => osem o
abbrev cell (c : Dev nD) (x : Cl) : GSem nD τ sig := ((c : Thread nD τ), csem x)

abbrev bCl : Cl := .inl ()
abbrev lCl (s : Fin 3) : Cl := .inr (.inl s)
/-- The semaphore of chunk `j` of `W`. -/
abbrev wCl (j : Fin 4) : Cl := lCl ⟨j.val % 2, by omega⟩
abbrev rCl (k : Fin 10) (j : Fin 4) : Cl := .inr (.inr (k, j))

/-- The cell a semaphore is, if it is one. -/
def clOf : SemLoc sig → Option Cl
  | .reg _ => some bCl
  | .dma i => if i.val = 0 then none else if i.val < 4 then some (lCl ⟨(i.val - 1) % 3, Nat.mod_lt _ (by decide)⟩)
      else some (rCl ⟨(i.val - 4) / 4 % 10, Nat.mod_lt _ (by decide)⟩ ⟨(i.val - 4) % 4, Nat.mod_lt _ (by decide)⟩)

theorem clOf_csem (x : Cl) : clOf (csem x) = some x := by revert x; decide +kernel

theorem cell_injective {c c' : Dev nD} {x x' : Cl} (h : cell c x = cell c' x') : c = c' ∧ x = x' := by
  refine ⟨congrArg (fun g : GSem nD τ sig => g.1.1) h, ?_⟩
  have h2 := congrArg (fun g : GSem nD τ sig => clOf g.2) h
  dsimp only at h2
  rw [clOf_csem, clOf_csem] at h2
  exact Option.some.inj h2

/-! ## The amounts -/

/-- The credit of a tile between slots, of a tile of the result, of half a tile, of a chunk of `W`, of the rows of `dy`. -/
def slotAmt : ℕ := (rSlot 0).view.dmaCredit
def tileAmt : ℕ := (oTile 0 0).view.dmaCredit
def halfAmt : ℕ := (oZb 0 0).view.dmaCredit
def wAmt : ℕ := (wSlot 0).view.dmaCredit
def dyAmt : ℕ := bM.view.dmaCredit

/-- The amount of each duty of a cell. -/
def amt : Cl → ℕ
  | .inl _ => 1
  | .inr (.inl s) => if s.val < 2 then wAmt else dyAmt
  | .inr (.inr kj) => if kj.1.val < 2 then slotAmt else if kj.1.val < 6 then tileAmt else halfAmt

theorem amt_pos (x : Cl) : 0 < amt x := by
  have h1 : 0 < slotAmt := View.dmaCredit_pos _ (by decide)
  have h2 : 0 < tileAmt := View.dmaCredit_pos _ (by decide)
  have h3 : 0 < halfAmt := View.dmaCredit_pos _ (by decide)
  have h4 : 0 < wAmt := View.dmaCredit_pos _ (by decide)
  have h5 : 0 < dyAmt := View.dmaCredit_pos _ (by decide)
  rcases x with _ | s | kj
  · exact Nat.one_pos
  · show 0 < if s.val < 2 then wAmt else dyAmt
    split <;> assumption
  · show 0 < if kj.1.val < 2 then slotAmt else if kj.1.val < 6 then tileAmt else halfAmt
    split; · assumption
    split <;> assumption

/-! ## What the landings hand over -/

section Payloads
variable (m : (ℓ : Loc nD τ sig) → Buf (Elt F) ℓ)

/-- Slot `j` of the device's partial products, loaded as `v`; -/
def pOwn (c : Dev nD) (j : Fin 4) (v : Vec F S1x256x256 .f32) : sProp 𝕄 :=
  iprop(∃ f : Buf (Elt F) ((c : Thread nD τ).loc cc0_scratch2), ⌜(pM.access (slotR j)).read (Elt F) f = v⌝ ∗ (((c : Thread nD τ).loc cc0_scratch2) ↦[slotS j]{fullShare} f))
/-- slot `j` of those received, loaded as `v`; -/
def rOwn (c : Dev nD) (j : Fin 4) (v : Vec F S1x256x256 .f32) : sProp 𝕄 :=
  iprop(∃ f : Buf (Elt F) ((c : Thread nD τ).loc cc0_scratch3), ⌜(rM.access (slotR j)).read (Elt F) f = v⌝ ∗ (((c : Thread nD τ).loc cc0_scratch3) ↦[slotS j]{fullShare} f))
/-- slot `s` for chunks of `W`, loaded as `v`; -/
def wOwn (c : Dev nD) (s : Fin 2) (v : Vec F S1x256x4096 .f32) : sProp 𝕄 :=
  iprop(∃ f : Buf (Elt F) ((c : Thread nD τ).loc cc0_scratch1), ⌜(vM.access (wslotR s)).read (Elt F) f = v⌝ ∗ (((c : Thread nD τ).loc cc0_scratch1) ↦[wslotS s]{fullShare} f))
/-- the same slots with any contents; -/
def pAny (c : Dev nD) (j : Fin 4) : sProp 𝕄 := iprop(∃ f : Buf (Elt F) ((c : Thread nD τ).loc cc0_scratch2), ((c : Thread nD τ).loc cc0_scratch2) ↦[slotS j]{fullShare} f)
def rAny (c : Dev nD) (j : Fin 4) : sProp 𝕄 := iprop(∃ f : Buf (Elt F) ((c : Thread nD τ).loc cc0_scratch3), ((c : Thread nD τ).loc cc0_scratch3) ↦[slotS j]{fullShare} f)
def wAny (c : Dev nD) (s : Fin 2) : sProp 𝕄 := iprop(∃ f : Buf (Elt F) ((c : Thread nD τ).loc cc0_scratch1), ((c : Thread nD τ).loc cc0_scratch1) ↦[wslotS s]{fullShare} f)
/-- elements of the result with any contents, -/
def oAny (c : Dev nD) (S : Finset OIx) : sProp 𝕄 := iprop(∃ f : Buf (Elt F) ((c : Thread nD τ).loc cc0_stg0_0), ((c : Thread nD τ).loc cc0_stg0_0) ↦[S]{fullShare} f)
/-- or with their final values; -/
def oPts (c : Dev nD) (S : Finset OIx) (q : PosShare TreeShare) : sProp 𝕄 := iprop(((c : Thread nD τ).loc cc0_stg0_0) ↦[S]{q} (outAt m c))
/-- the rows of `dy`, copied and original; -/
def dyOwn (c : Dev nD) : sProp 𝕄 := iprop(((c : Thread nD τ).loc cc0_scratch0) ↦{fullShare} (dyBlk m c : Buf (Elt F) ((c : Thread nD τ).loc cc0_scratch0)))
def dySrc (c : Dev nD) : sProp 𝕄 := iprop(((c : Thread nD τ).loc main_arg0) ↦[dyS c]{fullShare} (dyA m c))
/-- chunk `j` of `W`. -/
def wSrc (c : Dev nD) (j : Fin 4) : sProp 𝕄 := iprop(((c : Thread nD τ).loc main_arg1) ↦[wchunkS j]{fullShare} (wA m c))

instance pOwn_storable (c : Dev nD) (j : Fin 4) (v) : BI.Storable (upEmb : UEmb _ 𝕄) (pOwn (F := F) c j v) := by unfold pOwn; infer_instance
instance rOwn_storable (c : Dev nD) (j : Fin 4) (v) : BI.Storable (upEmb : UEmb _ 𝕄) (rOwn (F := F) c j v) := by unfold rOwn; infer_instance
instance wOwn_storable (c : Dev nD) (s : Fin 2) (v) : BI.Storable (upEmb : UEmb _ 𝕄) (wOwn (F := F) c s v) := by unfold wOwn; infer_instance
instance rAny_storable (c : Dev nD) (j : Fin 4) : BI.Storable (upEmb : UEmb _ 𝕄) (rAny (F := F) c j) := by unfold rAny; infer_instance
instance oAny_storable (c : Dev nD) (S : Finset OIx) : BI.Storable (upEmb : UEmb _ 𝕄) (oAny (F := F) c S) := by unfold oAny; infer_instance
instance oPts_storable (c : Dev nD) (S : Finset OIx) (q) : BI.Storable (upEmb : UEmb _ 𝕄) (oPts (F := F) m c S q) := by unfold oPts; infer_instance
instance dyOwn_storable (c : Dev nD) : BI.Storable (upEmb : UEmb _ 𝕄) (dyOwn (F := F) m c) := by unfold dyOwn; infer_instance
instance dySrc_storable (c : Dev nD) : BI.Storable (upEmb : UEmb _ 𝕄) (dySrc (F := F) m c) := by unfold dySrc; infer_instance
instance wSrc_storable (c : Dev nD) (j : Fin 4) : BI.Storable (upEmb : UEmb _ 𝕄) (wSrc (F := F) m c j) := by unfold wSrc; infer_instance

/-- What the neighbour along `x` lets this device write: its copies of this device's tiles, and the lower half tiles this
    device forwards; -/
def giveX (c : Dev nD) : sProp 𝕄 := bigSep Finset.univ fun j : Fin 4 => iprop(oAny (F := F) (xn c) (tileS c j) ∗ oAny (xn c) (xbS c j))
/-- along `y`: its slots for received partial products; -/
def giveY (c : Dev nD) : sProp 𝕄 := bigSep Finset.univ fun j : Fin 4 => rAny (F := F) (yn c) j
/-- along `z`: its copies of this device's tiles, and the upper half tiles. -/
def giveZ (c : Dev nD) : sProp 𝕄 := bigSep Finset.univ fun j : Fin 4 => iprop(oAny (F := F) (zn c) (tileS c j) ∗ oAny (zn c) (zbS c j))

/-- What each copy over the four-slot arrays hands to the owner of the semaphore: even arrays are the senders'. -/
def xfer (c : Dev nD) (k : Fin 10) (j : Fin 4) : sProp 𝕄 :=
  match k with
  | 0 => pOwn c j (part m c j)
  | 1 => rOwn c j (part m (yn c) j)
  | 2 => oPts m c (tileS c j) fullShare.left
  | 3 => oPts m c (tileS (xn c) j) fullShare
  | 4 => oPts m c (tileS c j) fullShare.right
  | 5 => oPts m c (tileS (zn c) j) fullShare
  | 6 => oPts m c (zbS c j) fullShare
  | 7 => oPts m c (zbS (zn c) j) fullShare
  | 8 => oPts m c (xbS c j) fullShare
  | 9 => oPts m c (xbS (xn c) j) fullShare

/-- What round `r` of a cell hands over for duty `d`. -/
def pay (c : Dev nD) : Cl → ℕ → Fin 3 → sProp 𝕄
  | .inl _, _, d => match d with | 0 => giveX c | 1 => giveY c | 2 => giveZ c
  | .inr (.inl s), r, _ =>
      if s.val < 2 then
        iprop(wOwn (F := F) c ⟨s.val % 2, Nat.mod_lt _ (by decide)⟩ (wv m c ⟨(2 * r + s.val) % 4, Nat.mod_lt _ (by decide)⟩)
          ∗ wSrc m c ⟨(2 * r + s.val) % 4, Nat.mod_lt _ (by decide)⟩)
      else iprop(dyOwn m c ∗ dySrc m c)
  | .inr (.inr kj), _, _ => xfer m c kj.1 kj.2

instance pay_storable (c : Dev nD) (x : Cl) (r : ℕ) (d : Fin 3) : BI.Storable (upEmb : UEmb _ 𝕄) (pay (F := F) m c x r d) := by
  rcases x with _ | s | ⟨k, j⟩
  · unfold pay; dsimp only; fin_cases d
    · show BI.Storable _ (giveX c); unfold giveX; infer_instance
    · show BI.Storable _ (giveY c); unfold giveY; infer_instance
    · show BI.Storable _ (giveZ c); unfold giveZ; infer_instance
  · unfold pay; dsimp only; split <;> infer_instance
  · show BI.Storable _ (xfer m c k j)
    unfold xfer; split <;> infer_instance

/-- The duties of round `r` of a cell. -/
def dut : Cl → ℕ → Finset (Fin 3)
  | .inl _, r => if r = 0 then Finset.univ else ∅
  | .inr (.inl s), r => if r < (if s.val < 2 then 2 else 1) then {0} else ∅
  | .inr (.inr _), r => if r = 0 then {0} else ∅

/-- The protocol. -/
def sched : Rounds.Schedule (GSem nD τ sig) (Fin 3) 𝕄 where
  duties g r := match clOf g.2 with | none => ∅ | some x => dut x r
  amount g _ _ := match clOf g.2 with | none => 1 | some x => amt x
  payload g r d := match clOf g.2 with | none => iprop(emp) | some x => pay m g.1.1 x r d
  amount_pos g _ _ _ := by
    split
    · exact Nat.one_pos
    · exact amt_pos _

instance sched_storable (g : GSem nD τ sig) (r : ℕ) (d : Fin 3) :
    BI.Storable (upEmb : UEmb _ 𝕄) ((sched (F := F) m).payload g r d) := by
  show BI.Storable _ (match clOf g.2 with | none => iprop(emp) | some x => pay m g.1.1 x r d)
  split <;> infer_instance

theorem duties_cell (c : Dev nD) (x : Cl) (r : ℕ) : (sched (F := F) m).duties (cell c x) r = dut x r := by
  dsimp only [sched]; rw [clOf_csem]
theorem amount_cell (c : Dev nD) (x : Cl) (r : ℕ) (d : Fin 3) : (sched (F := F) m).amount (cell c x) r d = amt x := by
  dsimp only [sched]; rw [clOf_csem]
theorem payload_cell (c : Dev nD) (x : Cl) (r : ℕ) (d : Fin 3) : (sched (F := F) m).payload (cell c x) r d = pay m c x r d := by
  dsimp only [sched]; rw [clOf_csem]

theorem expect_one (c : Dev nD) (x : Cl) (r : ℕ) (h : dut x r = {0}) : (sched (F := F) m).expect (cell c x) r = amt x := by
  unfold Schedule.expect Schedule.amountOf; rw [duties_cell, h, Finset.sum_singleton, amount_cell]
theorem expect_bar (c : Dev nD) : (sched (F := F) m).expect (cell c bCl) 0 = 3 := by
  unfold Schedule.expect Schedule.amountOf
  rw [duties_cell, Finset.sum_congr rfl fun d _ => amount_cell m c bCl 0 d]; rfl
/-- A round with one duty hands over that duty's payload. -/
theorem rest_one (c : Dev nD) (x : Cl) (r : ℕ) (h : dut x r = {0}) :
    bigSep ((sched (F := F) m).duties (cell c x) r \ ∅) (fun d => (sched (F := F) m).payload (cell c x) r d) = pay m c x r 0 := by
  rw [Finset.sdiff_empty, duties_cell, h, bigSep_singleton, payload_cell]
/-- The barrier's round hands over what the three neighbours give. -/
theorem rest_bar (c : Dev nD) :
    bigSep ((sched (F := F) m).duties (cell c bCl) 0 \ ∅) (fun d => (sched (F := F) m).payload (cell c bCl) 0 d) = iprop(giveX c ∗ giveY c ∗ giveZ c) := by
  rw [Finset.sdiff_empty, duties_cell, show dut bCl 0 = Finset.univ from rfl,
    bigSep_univ_eq_bigSepL [(0 : Fin 3), 1, 2] (by decide) (by decide), bigSepL_cons_cons, bigSepL_cons_cons, bigSepL_singleton,
    payload_cell, payload_cell, payload_cell]
  rfl

/-- The number of rounds of a cell, after which it has no duty. -/
def rounds : Cl → ℕ
  | .inl _ => 1
  | .inr (.inl s) => if s.val < 2 then 2 else 1
  | .inr (.inr _) => 1
theorem duties_later (c : Dev nD) (x : Cl) : ∀ r, rounds x ≤ r → (sched (F := F) m).duties (cell c x) r = ∅ := fun r hr => by
  rw [duties_cell]
  rcases x with _ | s | kj
  · exact if_neg (by have : 1 ≤ r := hr; omega)
  · exact if_neg (by have h : (if s.val < 2 then 2 else 1) ≤ r := hr; omega)
  · exact if_neg (by have : 1 ≤ r := hr; omega)

end Payloads

/-! ## What each device owes -/

/-- The devices a device pays, in order: the three barrier signals, the four copies along `y`, the copies along `x` and
    `z` in turn, the forwards along `z`, the forwards along `x`; -/
def payTo (c : Dev nD) (n : ℕ) : Dev nD :=
  if n = 0 then xn c else if n = 1 then yn c else if n = 2 then zn c else if n < 7 then yn c
  else if n < 15 then (if n % 2 = 1 then xn c else zn c) else if n < 19 then zn c else xn c
/-- the cells it pays there. -/
def payAt (n : ℕ) : Cl :=
  if n < 3 then bCl else if n < 7 then rCl 1 ⟨(n - 3) % 4, Nat.mod_lt _ (by decide)⟩
  else if n < 15 then (if n % 2 = 1 then rCl 3 ⟨(n - 7) / 2 % 4, Nat.mod_lt _ (by decide)⟩ else rCl 5 ⟨(n - 8) / 2 % 4, Nat.mod_lt _ (by decide)⟩)
  else if n < 19 then rCl 7 ⟨(n - 15) % 4, Nat.mod_lt _ (by decide)⟩ else rCl 9 ⟨(n - 19) % 4, Nat.mod_lt _ (by decide)⟩

/-- Device `c`'s `n`-th payment. -/
def debt (c : Dev nD) (n : ℕ) : CellTallies nD τ sig Unit := tallyAt (cell (payTo c n) (payAt n)) () (amt (payAt n))
/-- What it owes after its first `n` payments. -/
def owed (c : Dev nD) (n : ℕ) : CellTallies nD τ sig Unit := ∑ i ∈ Finset.Ico n 23, debt c i

theorem owed_step (c : Dev nD) (n : ℕ) (h : n < 23) : owed c n = owed c (n + 1) + debt c n := by
  have hI : Finset.Ico n 23 = insert n (Finset.Ico (n + 1) 23) := by
    ext i; rw [Finset.mem_insert, Finset.mem_Ico, Finset.mem_Ico]; omega
  unfold owed
  rw [hI, Finset.sum_insert (fun hn => by rw [Finset.mem_Ico] at hn; omega), add_comm]
theorem owed_end (c : Dev nD) : owed c 23 = 0 := by unfold owed; rw [Finset.Ico_self, Finset.sum_empty]

theorem debt_bar (c : Dev nD) (n : ℕ) (h : n < 3) : debt c n = tallyAt (cell (payTo c n) bCl) () 1 := by
  unfold debt; rw [show payAt n = bCl from if_pos h]; rfl
theorem debt_y (c : Dev nD) (j : Fin 4) : debt c (3 + j.val) = tallyAt (cell (yn c) (rCl 1 j)) () slotAmt := by
  fin_cases j <;> rfl
theorem debt_x (c : Dev nD) (j : Fin 4) : debt c (7 + 2 * j.val) = tallyAt (cell (xn c) (rCl 3 j)) () tileAmt := by
  fin_cases j <;> rfl
theorem debt_za (c : Dev nD) (j : Fin 4) : debt c (8 + 2 * j.val) = tallyAt (cell (zn c) (rCl 5 j)) () tileAmt := by
  fin_cases j <;> rfl
theorem debt_zb (c : Dev nD) (j : Fin 4) : debt c (15 + j.val) = tallyAt (cell (zn c) (rCl 7 j)) () halfAmt := by
  fin_cases j <;> rfl
theorem debt_xb (c : Dev nD) (j : Fin 4) : debt c (19 + j.val) = tallyAt (cell (xn c) (rCl 9 j)) () halfAmt := by
  fin_cases j <;> rfl

/-! ## The levels -/

/-- The barrier first, then the copies along `y`, then those along `x` and `z`, then the forwards; what a device waits for
    from itself lowest. -/
def lvl : Cl → ℕ
  | .inl _ => 1
  | .inr (.inl _) => 0
  | .inr (.inr kj) => if kj.1.val % 2 = 0 then 0 else if kj.1.val < 2 then 2 else if kj.1.val < 6 then 3 else 4
def semLvl (sm : SemLoc sig) : ℕ := match clOf sm with | none => 0 | some x => lvl x
def lv (g : GSem nD τ sig) (_ : Unit) : ℕ := semLvl g.2
def L (g : GSem nD τ sig) : Finset Unit := if g.1.2 = .tc then {()} else ∅

theorem L_other (g : GSem nD τ sig) (h : g.1.2 ≠ .tc) : L g = ∅ := if_neg h
theorem L_own (c : Dev nD) (sm : SemLoc sig) : L ((c : Thread nD τ), sm) = {()} := if_pos rfl
theorem semLvl_csem (x : Cl) : semLvl (csem x) = lvl x := by unfold semLvl; rw [clOf_csem]

theorem owed_pos {c : Dev nD} {n : ℕ} {g : GSem nD τ sig} {u : Unit} (h : 0 < owed c n g u) :
    ∃ i, n ≤ i ∧ i < 23 ∧ g = cell (payTo c i) (payAt i) := by
  unfold owed at h
  rw [Finset.sum_apply, Finsupp.finset_sum_apply] at h
  obtain ⟨i, hi, hne⟩ := Finset.exists_ne_zero_of_sum_ne_zero h.ne'
  rw [Finset.mem_Ico] at hi
  refine ⟨i, hi.1, hi.2, ?_⟩
  unfold debt at hne
  rw [tallyAt_apply] at hne
  by_contra hg
  exact hne (if_neg fun h' => hg h'.1)

/-- A device that has made `n` payments may wait on a semaphore below all it still owes. -/
theorem mayWait (c : Dev nD) (sm : SemLoc sig) (n : ℕ) (h : ∀ i, n ≤ i → i < 23 → semLvl sm < lvl (payAt i)) :
    (levAts L lv : sProp 𝕄) ⊢ MayWait (c : Thread nD τ) sm () (owed c n) :=
  MayOwe.of_cut (L := L) (lev := lv) (semLvl sm)
    (fun p hp => by rw [Finset.mem_singleton.mp hp, L_own]; exact Finset.mem_singleton_self _)
    (fun g u hg => by obtain ⟨i, -, -, rfl⟩ := owed_pos hg; exact Finset.mem_singleton_self _)
    (fun p hp => by rw [Finset.mem_singleton.mp hp]; exact le_rfl)
    (fun g u hg => by
      obtain ⟨i, h1, h2, rfl⟩ := owed_pos hg
      show semLvl sm < semLvl (csem (payAt i))
      rw [semLvl_csem]; exact h i h1 h2)

/-- The levels of what a device waits for from itself, -/
theorem lvl_sent (k : Fin 10) (j : Fin 4) (h : k.val % 2 = 0) : lvl (rCl k j) = 0 := if_pos h
/-- of a partial product received, -/
theorem lvl_y (j : Fin 4) : lvl (rCl 1 j) = 2 := by revert j; decide
/-- of a tile received. -/
theorem lvl_tile (k : Fin 10) (j : Fin 4) (h : k.val % 2 ≠ 0) (h1 : ¬ k.val < 2) (h2 : k.val < 6) : lvl (rCl k j) = 3 :=
  (if_neg h).trans ((if_neg h1).trans (if_pos h2))
theorem pay_pos : ∀ i, i < 23 → 0 < lvl (payAt i) := by decide
theorem lvl_after_bar : ∀ i, 3 ≤ i → i < 23 → 1 < lvl (payAt i) := by
  have : ∀ i, i < 23 → 3 ≤ i → 1 < lvl (payAt i) := by decide
  exact fun i h1 h2 => this i h2 h1
theorem lvl_after_y : ∀ i, 7 ≤ i → i < 23 → 2 < lvl (payAt i) := by
  have : ∀ i, i < 23 → 7 ≤ i → 2 < lvl (payAt i) := by decide
  exact fun i h1 h2 => this i h2 h1
theorem lvl_after_xz : ∀ i, 15 ≤ i → i < 23 → 3 < lvl (payAt i) := by
  have : ∀ i, i < 23 → 15 ≤ i → 3 < lvl (payAt i) := by decide
  exact fun i h1 h2 => this i h2 h1

end Cert.KernelIdeal.Mm

end
-- ==== Proof.Ideal.Rules.lean ====
/- The rules of one transfer and of one wait at the protocol's cells, and how triples are put in sequence. -/
module

public import proofs.«01_k».proof.Proof.Ideal.Schedule

@[expose] public section

noncomputable section

namespace Cert.KernelIdeal.Mm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAlg ℕ

abbrev 𝒱₀ : Variants := Variants.none

/-- Device `c`, running `p`, ends with `Q`. -/
abbrev runs (c : Dev nD) (p : Pg F PUnit) (Q : sProp 𝕄) : sProp 𝕄 :=
  wp frame (wpE (defs₀ (F := F)) 𝒱₀ (c : Thread nD τ) none) Set.univ p (fun _ => Q)

/-- Position `R` of a cell's rounds; -/
abbrev pos (c : Dev nD) (x : Cl) (R : ℕ) : sProp 𝕄 := atPos ER (cell c x) R ∅ 0
/-- the right to pay duty `d` of round `r`; -/
abbrev tok (c : Dev nD) (x : Cl) (r : ℕ) (d : Fin 3) : sProp 𝕄 := dutyTok ER (cell c x) r d
/-- the right to wait for one duty's amount. -/
abbrev crd (c : Dev nD) (x : Cl) : sProp 𝕄 := cred (tallyAt (cell c x) () (amt x))
/-- What device `c` owes after `n` payments, whatever it has waited for. -/
def owesN (c : Dev nD) (n : ℕ) : sProp 𝕄 := iprop(∃ W : Waits sig Unit, owes (c : Thread nD τ) (owed c n) W)

section
variable (m : (ℓ : Loc nD τ sig) → Buf (Elt F) ℓ) (K : Dev nD × Cl → ℕ)

/-- What every device knows of all the cells, and the levels. -/
def env : sProp 𝕄 := iprop((bigSep Finset.univ fun p : Dev nD × Cl => cellInv ER (sched m) (K p) (cell p.1 p.2))
  ∗ (bigSep Finset.univ fun p : Dev nD × Cl => reached ER (cell p.1 p.2) 0) ∗ levAts L lv)

instance env_persistent : BI.Persistent (env (F := F) m K) := by unfold env; infer_instance

theorem env_inv (c : Dev nD) (x : Cl) : env (F := F) m K ⊢ cellInv ER (sched m) (K (c, x)) (cell c x) := by
  have h : (bigSep Finset.univ fun p : Dev nD × Cl => (cellInv ER (sched m) (K p) (cell p.1 p.2) : sProp 𝕄)) ⊢ cellInv ER (sched m) (K (c, x)) (cell c x) :=
    bigSep_elim (Finset.mem_univ (c, x))
  unfold env; iintro ⟨H, -, -⟩; iapply h; iexact H
theorem env_reached (c : Dev nD) (x : Cl) : env (F := F) m K ⊢ reached ER (cell c x) 0 := by
  have h : (bigSep Finset.univ fun p : Dev nD × Cl => (reached ER (cell p.1 p.2) 0 : sProp 𝕄)) ⊢ reached ER (cell c x) 0 :=
    bigSep_elim (Finset.mem_univ (c, x))
  unfold env; iintro ⟨-, H, -⟩; iapply h; iexact H
theorem env_lev : env (F := F) m K ⊢ levAts L lv := by
  unfold env; iintro ⟨-, -, H⟩; iexact H

/-! ## Sequencing -/

/-- Run `p`, then go on with what it leaves. -/
theorem step {c : Dev nD} {p k : Pg F PUnit} {P Q R : sProp 𝕄} (h : P ⊢ runs c p Q) :
    P ⊢ iprop((Q -∗ runs c k R) -∗ runs c (p >>= fun _ => k) R) := by
  have hm : iprop(runs c p Q ∗ (Q -∗ runs c k R)) ⊢ runs c (p >>= fun _ => k) R := by
    unfold runs; rw [wp_bind]
    exact (wp_frame_r _ _ _).trans (wp_mono _ _ _ fun _ => by iintro ⟨H, Hk⟩; iapply Hk; iexact H)
  iintro HP HQ
  iapply hm
  isplitl [HP]
  · iapply h; iexact HP
  iexact HQ

/-- The last piece of a program. -/
theorem last {c : Dev nD} {p : Pg F PUnit} {P Q R : sProp 𝕄} (h : P ⊢ runs c p Q) :
    P ⊢ iprop((Q -∗ R) -∗ runs c p R) := by
  have hm : iprop(runs c p Q ∗ (Q -∗ R)) ⊢ runs c p R :=
    (wp_frame_r _ _ _).trans (wp_mono _ _ _ fun _ => by iintro ⟨H, Hk⟩; iapply Hk; iexact H)
  iintro HP HQ
  iapply hm
  isplitl [HP]
  · iapply h; iexact HP
  iexact HQ

/-! ## One wait -/

/-- A wait for the single duty of a cell's open round, by a device that may wait there: the round's payload comes. -/
theorem wait_cell (c : Dev nD) (x : Cl) (R n : ℕ) {sp sp' : Space} {s s' : Shape} {e e' : EltTy} (sem : DmaSem sig) (hx : csem x = .dma sem)
    (src : Memref sig .tc sp' s' e') (dst : Memref sig .tc sp s e) {hs : src.view.WordExact} {hd : dst.view.WordExact}
    (hdut : dut x R = {0}) (hamt : dst.view.dmaCredit = amt x) (hl : ∀ i, n ≤ i → i < 23 → lvl x < lvl (payAt i)) :
    iprop(env m K ∗ crd c x ∗ owesN c n ∗ pos c x R)
      ⊢ runs c (Prog.lift (.waitDma2 sem src dst hs hd)) iprop(owesN c n ∗ pos c x (R + 1) ∗ reached ER (cell c x) (R + 1) ∗ pay m c x R 0) := by
  unfold owesN runs
  simp only [Prog.lift]
  iintro ⟨#HE, Hc, ⟨%W, HO⟩, Hp⟩
  ihave #HI := (env_inv m K c x) $$ HE
  ihave #HL := (env_lev m K) $$ HE
  iapply (Rounds.wp_wait_rest_token 𝒱₀ ER (sched m) (c : Thread nD τ) none (sm := csem x) (k' := amt x) (κ := K (c, x))
      (w := .waitDma2 sem src dst hs hd) (fun Kt => by rw [hx, ← hamt]; exact wpE_waitDma2_eq 𝒱₀ (c : Thread nD τ) none Set.univ Kt) (Set.mem_univ _) () (O := owed c n) (W := W) (R := R) (m := 0) (T := ∅)
      (by rw [Nat.zero_add]; exact (expect_one m c x R hdut).symm)) $$ [Hc HO Hp]
  · isplitr; · iexact HI
    isplitl [Hc]; · iexact Hc
    isplitl [HO]; · iexact HO
    isplitr; · iapply (mayWait c (csem x) n (fun i h1 h2 => by rw [semLvl_csem]; exact hl i h1 h2)); iexact HL
    iexact Hp
  iintro ⟨HO, Hp, #Hr, Hpay⟩
  ihave Hpay := (Entails.of_eq (rest_one m c x R hdut)) $$ Hpay
  rw [wp_ret]; imodintro
  isplitl [HO]; · iexists _; iexact HO
  isplitl [Hp]; · iexact Hp
  isplitr; · iexact Hr
  iexact Hpay

/-! ## One transfer -/

/-- A transfer to device `c'`, the device's `n`-th payment: it hands the source to the sender's cell and the written
    destination to the receiver's. -/
theorem send_cell (c c' c'' : Dev nD) (hc : c'' = c') (x y : Cl) (n N : ℕ) {s : Shape} {e : EltTy} (src dst : Memref sig .tc .vmem s e)
    {hsc : (show Memref sig (Dev.tc c'' : Thread nD τ).2.kind .vmem s e from dst).view.ref.isScScratch = false} {hs : src.view.WordExact} {hd : dst.view.WordExact}
    {hsem : DmaTarget.Typed .vmem (csem y) (.remote (Dev.tc c'' : Thread nD τ) dst (csem x) hsc)}
    (q : PosShare TreeShare) (fs : Buf (Elt F) (src.view.loc (c : Thread nD τ))) (fd : Buf (Elt F) (dst.view.loc (c' : Thread nD τ)))
    (hdx : dut x 0 = {0}) (hdy : dut y 0 = {0}) (hn : n < 23) (hdebt : debt c n = tallyAt (cell c' y) () N)
    (hN : dst.view.amount (csem y) = N) (hax : amt x = N) (hay : amt y = N)
    (hpx : (src.view.loc (c : Thread nD τ) ↦[src.view.set]{q} fs) ⊢ pay m c x 0 0)
    (hpy : (dst.view.loc (c' : Thread nD τ) ↦[dst.view.set]{fullShare} (dst.view.write (Elt F) fd (src.view.read (Elt F) fs) Finset.univ)) ⊢ pay m c' y 0 0) :
    iprop(env m K ∗ (src.view.loc (c : Thread nD τ) ↦[src.view.set]{q} fs) ∗ (dst.view.loc (c' : Thread nD τ) ↦[dst.view.set]{fullShare} fd)
        ∗ owesN c n ∗ tok c x 0 0 ∗ tok c' y 0 0)
      ⊢ runs c (Prog.lift (.enqueueDma src (.remote (Dev.tc c'' : Thread nD τ) dst (csem x) hsc) (csem y) hs hd hsem)) iprop(crd c x ∗ owesN c (n + 1)) := by
  subst hc
  unfold owesN runs
  simp only [Prog.lift]
  iintro ⟨#HE, Hs, Hd, ⟨%W, HO⟩, Hx, Hy⟩
  ihave #HI := (env_inv m K c x) $$ HE
  ihave #HI' := (env_inv m K c'' y) $$ HE
  ihave #HR := (env_reached m K c x) $$ HE
  ihave #HR' := (env_reached m K c'' y) $$ HE
  iapply (Rounds.wp_send_pointsTo 𝒱₀ ER (sched m) (c : Thread nD τ) none (κ₁ := K (c, x)) (κ₂ := K (c'', y)) (r₁ := 0) (r₂ := 0) (d₁ := 0) (d₂ := 0) (fd := fd)
      (by rw [duties_cell, hdx]; exact Finset.mem_singleton_self _) (by rw [duties_cell, hdy]; exact Finset.mem_singleton_self _)
      () () N hN ((amount_cell m c x 0 0).trans hax) ((amount_cell m c'' y 0 0).trans hay) (owed c (n + 1)) ((owed_step c n hn).trans (congrArg _ hdebt)) (W := W)
      (by rw [payload_cell]; exact hpx) (by rw [payload_cell]; exact hpy)) $$ [Hs Hd HO Hx Hy]
  · isplitr; · iexact HI
    isplitr; · iexact HI'
    isplitl [Hs]; · iexact Hs
    isplitl [Hd]; · iexact Hd
    isplitl [HO]; · iexact HO
    isplitl [Hx]; · iexact Hx
    isplitr; · iexact HR
    isplitl [Hy]; · iexact Hy
    iexact HR'
  iintro ⟨Hc, HO⟩
  rw [wp_ret]; imodintro
  isplitl [Hc]; · unfold crd; rw [hax]; iexact Hc
  iexists _; iexact HO

/-- A local copy paying the single duty of round `r` of one of the device's own cells. -/
theorem copy_cell (c : Dev nD) (x : Cl) (r : ℕ) {sp sp' : Space} {s : Shape} {e : EltTy} (src : Memref sig .tc sp s e) (dst : Memref sig .tc sp' s e)
    {hs : src.view.WordExact} {hd : dst.view.WordExact} {hsem : DmaTarget.Typed (nD := nD) (p := (.tc : Proc τ)) sp (csem x) (.here dst)}
    (fs : Buf (Elt F) (src.view.loc (c : Thread nD τ))) (fd : Buf (Elt F) (dst.view.loc (c : Thread nD τ)))
    (hdx : dut x r = {0}) (hN : dst.view.amount (csem x) = amt x)
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ pay m c x r 0) :
    iprop(env m K ∗ (src.view.loc (c : Thread nD τ) ↦[src.view.set]{fullShare} fs) ∗ (dst.view.loc (c : Thread nD τ) ↦[dst.view.set]{fullShare} fd)
        ∗ tok c x r 0 ∗ reached ER (cell c x) r)
      ⊢ runs c (Prog.lift (.enqueueDma src (.here dst) (csem x) hs hd hsem)) (crd c x) := by
  unfold runs
  simp only [Prog.lift]
  iintro ⟨#HE, Hs, Hd, Hx, #HR⟩
  ihave #HI := (env_inv m K c x) $$ HE
  iapply (Rounds.wp_copy_pointsTo 𝒱₀ ER (sched m) (c : Thread nD τ) none (κ := K (c, x)) (r := r) (d := 0) (fd := fd)
      (by rw [duties_cell, hdx]; exact Finset.mem_singleton_self _) () (amt x) hN (amount_cell m c x r 0)
      (by rw [payload_cell]; exact hpay)) $$ [Hs Hd Hx]
  · isplitr; · iexact HI
    isplitl [Hs]; · iexact Hs
    isplitl [Hd]; · iexact Hd
    isplitl [Hx]; · iexact Hx
    iexact HR
  iintro Hc
  rw [wp_ret]; imodintro
  iexact Hc

/-- Close a cell whose rounds are done: its counter is zero. -/
theorem close_cell (c : Dev nD) (x : Cl) : iprop(env m K ∗ pos c x (rounds x)) ⊢ |={Set.univ}=> semVal (cell c x) 0 := by
  iintro ⟨#HE, Hp⟩
  ihave #HI := (env_inv m K c x) $$ HE
  iapply (Rounds.cell_close ER (sched m) (Set.mem_univ (K (c, x))) (fun h => h) (R := rounds x) (duties_later m c x))
  isplitr; · iexact HI
  iexact Hp

end

end Cert.KernelIdeal.Mm

end
-- ==== Proof.Ideal.Steps.lean ====
/- What each step of the body does: the local copies and the products. -/
module

public import proofs.«01_k».proof.Proof.Ideal.Rules

@[expose] public section

noncomputable section

namespace Cert.KernelIdeal.Mm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAlg ℕ

variable (m : (ℓ : Loc nD τ sig) → Buf (Elt F) ℓ) (K : Dev nD × Cl → ℕ)

/-! ## The cells' payloads, by name -/

theorem pay_dy (c : Dev nD) : pay (F := F) m c (lCl 2) 0 0 = iprop(dyOwn m c ∗ dySrc m c) := rfl
theorem pay_w (c : Dev nD) (j : Fin 4) : pay (F := F) m c (wCl j) (j.val / 2) 0 = iprop(wOwn c (par j) (wv m c j) ∗ wSrc m c j) := by
  fin_cases j <;> rfl
theorem dut_w (j : Fin 4) : dut (wCl j) (j.val / 2) = {0} := by fin_cases j <;> rfl
theorem amt_w (j : Fin 4) : amt (wCl j) = wAmt := by fin_cases j <;> rfl
theorem wAmt_eq (s : Fin 2) : (wSlot s).view.dmaCredit = wAmt := rfl

/-! ## The rows of `dy` -/

theorem bM_pts (c : Dev nD) (f : Buf (Elt F) ((c : Thread nD τ).loc cc0_scratch0)) :
    (((bM : Memref sig .tc .vmem S256x4096 .f32).view.loc (c : Thread nD τ) ↦[(bM : Memref sig .tc .vmem S256x4096 .f32).view.set]{fullShare} f) : sProp 𝕄)
      = (((c : Thread nD τ).loc cc0_scratch0) ↦{fullShare} f) :=
  congrArg (fun S : Finset S256x4096.Idx => (((c : Thread nD τ).loc cc0_scratch0) ↦[S]{fullShare} f : sProp 𝕄)) (View.set_whole cc0_scratch0)

/-- The copy of the rows of `dy` is started. -/
theorem run_startDy (c : Dev nD) :
    iprop(env m K ∗ dySrc m c ∗ (∃ f : Buf (Elt F) ((c : Thread nD τ).loc cc0_scratch0), ((c : Thread nD τ).loc cc0_scratch0) ↦{fullShare} f) ∗ tok c (lCl 2) 0 0)
      ⊢ runs c (startDy c) (crd c (lCl 2)) := by
  iintro ⟨#HE, Hs, ⟨%f, Hd⟩, Ht⟩
  ihave #HR := (env_reached m K c (lCl 2)) $$ HE
  unfold startDy
  iapply (copy_cell m K c (lCl 2) 0 (dyRow c) bM (dyA m c) f rfl rfl (by
    rw [pay_dy]
    exact sep_mono_left (Entails.of_eq ((bM_pts c _).trans (congrArg (fun g : Buf (Elt F) ((c : Thread nD τ).loc cc0_scratch0) =>
      (((c : Thread nD τ).loc cc0_scratch0) ↦{fullShare} g : sProp 𝕄)) (View.write_whole_univ cc0_scratch0 f (dyBlk m c)))))))
  isplitr; · iexact HE
  isplitl [Hs]; · unfold dySrc; iexact Hs
  isplitl [Hd]; · iapply (Entails.of_eq (bM_pts c f).symm); iexact Hd
  isplitl [Ht]; · iexact Ht
  iexact HR

/-- The rows of `dy` have been copied. -/
theorem run_waitDy (c : Dev nD) (n : ℕ) :
    iprop(env m K ∗ crd c (lCl 2) ∗ owesN c n ∗ pos c (lCl 2) 0)
      ⊢ runs c (waitDy c) iprop(owesN c n ∗ pos c (lCl 2) 1 ∗ dyOwn m c ∗ dySrc m c) := by
  refine (wait_cell m K c (lCl 2) 0 n (lsem 2) rfl (dyRow c) bM rfl rfl (fun i _ h => pay_pos i h)).trans (wp_mono _ _ _ fun _ => ?_)
  iintro ⟨HO, Hp, -, Hpay⟩
  ihave Hpay := (Entails.of_eq (pay_dy m c)) $$ Hpay
  icases Hpay with ⟨H1, H2⟩
  isplitl [HO]; · iexact HO
  isplitl [Hp]; · iexact Hp
  isplitl [H1] <;> iassumption

/-! ## The chunks of `W` -/

/-- The copy of chunk `j` of `W` is started. -/
theorem run_startW (c : Dev nD) (j : Fin 4) :
    iprop(env m K ∗ wSrc m c j ∗ wAny c (par j) ∗ tok c (wCl j) (j.val / 2) 0 ∗ reached ER (cell c (wCl j)) (j.val / 2))
      ⊢ runs c (startW j) (crd c (wCl j)) := by
  unfold wAny wSrc
  iintro ⟨#HE, Hs, ⟨%f, Hd⟩, Ht, #HR⟩
  unfold startW
  iapply (copy_cell m K c (wCl j) (j.val / 2) (wChunk j) (wSlot (par j)) (wA m c) f (dut_w j) ((wAmt_eq (par j)).trans (amt_w j).symm) (by
    rw [pay_w]
    unfold wOwn wSrc
    iintro ⟨H1, H2⟩
    isplitl [H1]
    · iexists _
      isplitr
      · ipureintro; exact read_wslot (par j) f (wBlk m c j)
      iapply (Entails.of_eq (congrArg (fun S : Finset S2x256x4096.Idx => (((c : Thread nD τ).loc cc0_scratch1) ↦[S]{fullShare} _ : sProp 𝕄)) (wSlot_set (par j))))
      iexact H1
    iexact H2))
  isplitr; · iexact HE
  isplitl [Hs]; · iexact Hs
  isplitl [Hd]
  · iapply (Entails.of_eq (congrArg (fun S : Finset S2x256x4096.Idx => (((c : Thread nD τ).loc cc0_scratch1) ↦[S]{fullShare} f : sProp 𝕄)) (wSlot_set (par j)).symm))
    iexact Hd
  isplitl [Ht]; · iexact Ht
  iexact HR

/-- Chunk `j` of `W` has been copied. -/
theorem run_waitW (c : Dev nD) (j : Fin 4) (n : ℕ) :
    iprop(env m K ∗ crd c (wCl j) ∗ owesN c n ∗ pos c (wCl j) (j.val / 2))
      ⊢ runs c (waitW j) iprop(owesN c n ∗ pos c (wCl j) (j.val / 2 + 1) ∗ reached ER (cell c (wCl j)) (j.val / 2 + 1) ∗ wOwn c (par j) (wv m c j) ∗ wSrc m c j) := by
  have h := wait_cell m K c (wCl j) (j.val / 2) n (wsem (par j)) rfl (wChunk j) (wSlot (par j)) (hs := View.wordExact_bits rfl) (hd := (View.wordExact_bits rfl).reshape _ _)
    (dut_w j) ((wAmt_eq (par j)).trans (amt_w j).symm) (fun i _ h => pay_pos i h)
  rw [pay_w] at h
  exact h

/-- Every element the product's loads and store touch is held. -/
theorem hz2 : (![0, 0] : Fin 2 → Nat) = fun _ => 0 := funext fun a => by fin_cases a <;> rfl
theorem read_dy (f : (cc0_scratch0 : Ref sig .tc).ty.Contents (Elt F)) :
    (bM : Memref sig .tc .vmem S256x4096 .f32).view.readAt (Elt F) (Rect.unit (s := S256x4096) ![0, 0] S256x4096.size inb_S256x4096_S256x4096_0_0).toLoadRect f = f :=
  Memref.readAt_unit_zero (Elt F) cc0_scratch0 hz2 _ f

/-- The product of the rows of `dy` with chunk `j` of `W` goes into slot `j`. -/
theorem run_mulW (c : Dev nD) (j : Fin 4) :
    iprop(dyOwn m c ∗ wOwn c (par j) (wv m c j) ∗ pAny c j)
      ⊢ runs c (mulW j) iprop(dyOwn m c ∗ wAny c (par j) ∗ pOwn c j (part m c j)) := by
  unfold wOwn pAny wAny pOwn mulW runs dyOwn
  simp only [Prog.lift, Prog.bind_op, Prog.bind_ret]
  iintro ⟨Hd, ⟨%fw, %hw, Hw⟩, ⟨%fp, Hp⟩⟩
  iapply (wp_load 𝒱₀ (c : Thread nD τ) none Set.univ (m := bM) (Finset.subset_univ _)) $$ Hd; iintro Hd
  rw [read_dy]
  iapply (wp_load_rect 𝒱₀ (c : Thread nD τ) none Set.univ (m := vM) (r := wslotR (par j)) (S := wslotS (par j)) (wAcc_set (par j)).subset) $$ Hw; iintro Hw
  iapply (wp_load_rect 𝒱₀ (c : Thread nD τ) none Set.univ (m := pM) (r := slotR j) (S := slotS j) (pAcc_set j).subset) $$ Hp; iintro Hp
  iapply (wp_store 𝒱₀ (c : Thread nD τ) none Set.univ (m := pM) (r := slotR j) (Mk := Finset.univ) (S := slotS j) (pAcc_set j).subset) $$ Hp; iintro Hp
  rw [wp_ret]; imodintro
  isplitl [Hd]; · iexact Hd
  isplitl [Hw]; · iexists _; iexact Hw
  iexists _
  isplitr
  rotate_left
  · iexact Hp
  ipureintro
  rw [View.read_write_univ]
  unfold part
  rw [← hw]

end Cert.KernelIdeal.Mm

end
-- ==== Proof.Ideal.Sends.lean ====
/- What each step of the body does: the copies to other devices, and the barrier. -/
module

public import proofs.«01_k».proof.Proof.Ideal.Rules

@[expose] public section

noncomputable section

namespace Cert.KernelIdeal.Mm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAlg ℕ

variable (m : (ℓ : Loc nD τ sig) → Buf (Elt F) ℓ) (K : Dev nD × Cl → ℕ)

/-! ## Contents carried over -/

/-- Changing the elements a points-to names for equal ones. -/
theorem pts_set {c : Dev nD} {b : Ref sig .tc} {q : PosShare TreeShare} {f : Buf (Elt F) ((c : Thread nD τ).loc b)} {S T : Finset (Idx ((c : Thread nD τ).loc b))} (h : S = T) :
    (((c : Thread nD τ).loc b) ↦[S]{q} f : sProp 𝕄) ⊢ (((c : Thread nD τ).loc b) ↦[T]{q} f) := Entails.of_eq (by rw [h])

/-- The part of a tile a forward takes, split off. -/
theorem oPts_split (c : Dev nD) (q : PosShare TreeShare) {I S : Finset OIx} (h : I ⊆ S) :
    oPts (F := F) m c S q ⊢ iprop(oPts m c I q ∗ oPts m c (S \ I) q) := (pointsTo_split_subset h).1
/-- Elements held at two half shares. -/
theorem oPts_halves (c : Dev nD) (S : Finset OIx) :
    oPts (F := F) m c S fullShare ⊢ iprop(oPts m c S fullShare.left ∗ oPts m c S fullShare.right) :=
  (pointsTo_share (PosShare.mem_left_op_right fullShare)).1

/-! ## The partial products -/

/-- Slot `j` of the partial products is sent along `y`. -/
theorem run_sendY (c : Dev nD) (j : Fin 4) :
    iprop(env m K ∗ pOwn c j (part m c j) ∗ rAny (yn c) j ∗ owesN c (3 + j.val) ∗ tok c (rCl 0 j) 0 0 ∗ tok (yn c) (rCl 1 j) 0 0)
      ⊢ runs c (sendY c j) iprop(crd c (rCl 0 j) ∗ owesN c (3 + j.val + 1)) := by
  unfold sendY
  unfold pOwn rAny
  iintro ⟨#HE, ⟨%f, %hf, Hs⟩, ⟨%g, Hd⟩, HO, Hx, Hy⟩
  iapply (send_cell m K c (yn c) _ (yDev_eq c j) (rCl 0 j) (rCl 1 j) (3 + j.val) slotAmt (pSlot j) (rSlot j) fullShare f g rfl rfl (by omega) (debt_y c j) rfl rfl rfl
    (by
      show _ ⊢ pOwn c j (part m c j)
      unfold pOwn
      iintro H; iexists f; isplitr; · ipureintro; exact hf
      iapply (pts_set (b := cc0_scratch2) (pSlot_set j)); iexact H)
    (by
      show _ ⊢ rOwn (yn c) j (part m (yn (yn c)) j)
      unfold rOwn
      iintro H; iexists _; isplitr
      rotate_left
      · iapply (pts_set (b := cc0_scratch3) (rSlot_set j)); iexact H
      ipureintro; rw [read_rslot, yn_yn]; exact hf))
  isplitr; · iexact HE
  isplitl [Hs]; · iapply (pts_set (b := cc0_scratch2) (pSlot_set j).symm); iexact Hs
  isplitl [Hd]; · iapply (pts_set (c := yn c) (b := cc0_scratch3) (rSlot_set j).symm); iexact Hd
  isplitl [HO]; · iexact HO
  isplitl [Hx] <;> iassumption

/-- Both copies along `y` of chunk `j` are done. -/
theorem run_waitY (c : Dev nD) (j : Fin 4) (n : ℕ) (hn : 7 ≤ n) :
    iprop(env m K ∗ owesN c n ∗ crd c (rCl 0 j) ∗ pos c (rCl 0 j) 0 ∗ crd c (rCl 1 j) ∗ pos c (rCl 1 j) 0)
      ⊢ runs c (waitY j) iprop(owesN c n ∗ pos c (rCl 0 j) 1 ∗ pos c (rCl 1 j) 1 ∗ pOwn c j (part m c j) ∗ rOwn c j (part m (yn c) j)) := by
  unfold waitY
  iintro ⟨#HE, HO, Hc0, Hp0, Hc1, Hp1⟩
  iapply (step (wait_cell m K c (rCl 0 j) 0 n (dsem 0 j) rfl (rSlot j) (pSlot j) rfl rfl (fun i _ h => by rw [lvl_sent 0 j rfl]; exact pay_pos i h))) $$ [Hc0 HO Hp0]
  · isplitr; · iexact HE
    isplitl [Hc0]; · iexact Hc0
    isplitl [HO] <;> iassumption
  iintro ⟨HO, Hp0, -, Ha⟩
  iapply (last (wait_cell m K c (rCl 1 j) 0 n (dsem 1 j) rfl (pSlot j) (rSlot j) rfl rfl (fun i h1 h2 => by rw [lvl_y]; exact lvl_after_y i (hn.trans h1) h2))) $$ [Hc1 HO Hp1]
  · isplitr; · iexact HE
    isplitl [Hc1]; · iexact Hc1
    isplitl [HO] <;> iassumption
  iintro ⟨HO, Hp1, -, Hb⟩
  isplitl [HO]; · iexact HO
  isplitl [Hp0]; · iexact Hp0
  isplitl [Hp1]; · iexact Hp1
  isplitl [Ha]; · iapply (Entails.of_eq (show pay m c (rCl 0 j) 0 0 = pOwn c j (part m c j) from rfl)); iexact Ha
  iapply (Entails.of_eq (show pay m c (rCl 1 j) 0 0 = rOwn c j (part m (yn c) j) from rfl)); iexact Hb

/-- The two partial products of chunk `j`, added, are the device's own tile. -/
theorem run_addOwn (c : Dev nD) (j : Fin 4) :
    iprop(pOwn c j (part m c j) ∗ rOwn c j (part m (yn c) j) ∗ oAny c (tileS c j))
      ⊢ runs c (addOwn c j) iprop(pOwn c j (part m c j) ∗ rOwn c j (part m (yn c) j) ∗ oPts m c (tileS c j) fullShare) := by
  unfold pOwn rOwn oAny oPts addOwn runs
  simp only [Prog.lift, Prog.bind_op, Prog.bind_ret]
  iintro ⟨⟨%fa, %ha, Ha⟩, ⟨%fb, %hb, Hb⟩, ⟨%fo, Ho⟩⟩
  iapply (wp_load_rect 𝒱₀ (c : Thread nD τ) none Set.univ (m := pM) (r := slotR j) (S := slotS j) (pAcc_set j).subset) $$ Ha; iintro Ha
  iapply (wp_load_rect 𝒱₀ (c : Thread nD τ) none Set.univ (m := rM) (r := slotR j) (S := slotS j) (rAcc_set j).subset) $$ Hb; iintro Hb
  iapply (wp_load_rect 𝒱₀ (c : Thread nD τ) none Set.univ (m := oM) (r := ownR c j) (S := tileS c j) (ownR_set c j).subset) $$ Ho; iintro Ho
  iapply (wp_store 𝒱₀ (c : Thread nD τ) none Set.univ (m := oM) (r := ownR c j) (Mk := Finset.univ) (S := tileS c j) (ownR_set c j).subset) $$ Ho; iintro Ho
  rw [wp_ret]; imodintro
  isplitl [Ha]; · iexists fa; isplitr; · ipureintro; exact ha
                  iexact Ha
  isplitl [Hb]; · iexists fb; isplitr; · ipureintro; exact hb
                  iexact Hb
  rw [ha, hb]
  iapply (Entails.of_eq (pointsTo_congr (ℓ := (c : Thread nD τ).loc cc0_stg0_0) (fun i hi => store_own m c j fo i hi)))
  iexact Ho

/-! ## The tiles -/

/-- A piece of the result sent to device `n`, whose result has the same values. -/
theorem run_piece (c n n' : Dev nD) (hn' : n' = n) (hout : outAt m n = outAt m c) (x y : Cl) (k N : ℕ) {s : Shape} (r : Rect S1024x1024) (hr : ∀ a, r.stride a = 1)
    {S : Finset OIx} (hS : ((oM.slice r hr).view.set : Finset OIx) = S)
    {hsc : (show Memref sig (Dev.tc n' : Thread nD τ).2.kind .vmem r.shape .f32 from oM.slice r hr).view.ref.isScScratch = false}
    {hs : (oM.slice r hr).view.WordExact} {hd : (oM.slice r hr).view.WordExact}
    {hsem : DmaTarget.Typed .vmem (csem y) (.remote (Dev.tc n' : Thread nD τ) (oM.slice r hr) (csem x) hsc)} (q : PosShare TreeShare)
    (hdx : dut x 0 = {0}) (hdy : dut y 0 = {0}) (hk : k < 23) (hdebt : debt c k = tallyAt (cell n y) () N)
    (hN : (oM.slice r hr).view.amount (csem y) = N) (hax : amt x = N) (hay : amt y = N)
    (hpx : pay (F := F) m c x 0 0 = oPts m c S q) (hpy : pay (F := F) m n y 0 0 = oPts m n S fullShare) :
    iprop(env m K ∗ oPts m c S q ∗ oAny n S ∗ owesN c k ∗ tok c x 0 0 ∗ tok n y 0 0)
      ⊢ runs c (Prog.lift (.enqueueDma (oM.slice r hr) (.remote (Dev.tc n' : Thread nD τ) (oM.slice r hr) (csem x) hsc) (csem y) hs hd hsem)) iprop(crd c x ∗ owesN c (k + 1)) := by
  subst hS
  unfold oAny
  rw [show oPts m c (oM.slice r hr).view.set q = (((c : Thread nD τ).loc cc0_stg0_0) ↦[(oM.slice r hr).view.set]{q} (outAt m c)) from rfl]
  iintro ⟨#HE, Hs, ⟨%g, Hd⟩, HO, Hx, Hy⟩
  iapply (send_cell m K c n n' hn' x y k N (oM.slice r hr) (oM.slice r hr) q (outAt m c) g hdx hdy hk hdebt hN hax hay
    (by rw [hpx]; exact BI.Entails.refl _)
    (by
      rw [hpy]
      exact Entails.of_eq (pointsTo_congr (ℓ := (n : Thread nD τ).loc cc0_stg0_0) fun i hi =>
        (write_read_on (oM.slice r hr).view g (outAt m c) hi).trans (congrFun hout.symm i))))
  isplitr; · iexact HE
  isplitl [Hs]; · iexact Hs
  isplitl [Hd]; · iexact Hd
  isplitl [HO]; · iexact HO
  isplitl [Hx] <;> iassumption

theorem run_sendX (c : Dev nD) (j : Fin 4) :
    iprop(env m K ∗ oPts m c (tileS c j) fullShare.left ∗ oAny (xn c) (tileS c j) ∗ owesN c (7 + 2 * j.val) ∗ tok c (rCl 2 j) 0 0 ∗ tok (xn c) (rCl 3 j) 0 0)
      ⊢ runs c (sendX c j) iprop(crd c (rCl 2 j) ∗ owesN c (7 + 2 * j.val + 1)) := by
  unfold sendX
  exact run_piece m K c (xn c) _ (xDev_eq c j) (outAt_xn m c) (rCl 2 j) (rCl 3 j) (7 + 2 * j.val) tileAmt (s := S256x256) _ _ rfl fullShare.left rfl rfl (by omega) (debt_x c j) rfl rfl rfl
    rfl (by show oPts m (xn c) (tileS (xn (xn c)) j) fullShare = _; rw [xn_xn])

theorem run_sendZa (c : Dev nD) (j : Fin 4) :
    iprop(env m K ∗ oPts m c (tileS c j) fullShare.right ∗ oAny (zn c) (tileS c j) ∗ owesN c (8 + 2 * j.val) ∗ tok c (rCl 4 j) 0 0 ∗ tok (zn c) (rCl 5 j) 0 0)
      ⊢ runs c (sendZa c j) iprop(crd c (rCl 4 j) ∗ owesN c (8 + 2 * j.val + 1)) := by
  unfold sendZa
  exact run_piece m K c (zn c) _ (zaDev_eq c j) (outAt_zn m c) (rCl 4 j) (rCl 5 j) (8 + 2 * j.val) tileAmt (s := S256x256) _ _ rfl fullShare.right rfl rfl (by omega) (debt_za c j) rfl rfl rfl
    rfl (by show oPts m (zn c) (tileS (zn (zn c)) j) fullShare = _; rw [zn_zn])

theorem run_sendZb (c : Dev nD) (j : Fin 4) :
    iprop(env m K ∗ oPts m c (zbS c j) fullShare ∗ oAny (zn c) (zbS c j) ∗ owesN c (15 + j.val) ∗ tok c (rCl 6 j) 0 0 ∗ tok (zn c) (rCl 7 j) 0 0)
      ⊢ runs c (sendZb c j) iprop(crd c (rCl 6 j) ∗ owesN c (15 + j.val + 1)) := by
  unfold sendZb
  exact run_piece m K c (zn c) _ (zbDev_eq c j) (outAt_zn m c) (rCl 6 j) (rCl 7 j) (15 + j.val) halfAmt (s := S128x256) _ _ rfl fullShare rfl rfl (by omega) (debt_zb c j) rfl rfl rfl
    rfl (by show oPts m (zn c) (zbS (zn (zn c)) j) fullShare = _; rw [zn_zn])

theorem run_sendXb (c : Dev nD) (j : Fin 4) :
    iprop(env m K ∗ oPts m c (xbS c j) fullShare ∗ oAny (xn c) (xbS c j) ∗ owesN c (19 + j.val) ∗ tok c (rCl 8 j) 0 0 ∗ tok (xn c) (rCl 9 j) 0 0)
      ⊢ runs c (sendXb c j) iprop(crd c (rCl 8 j) ∗ owesN c (19 + j.val + 1)) := by
  unfold sendXb
  exact run_piece m K c (xn c) _ (xbDev_eq c j) (outAt_xn m c) (rCl 8 j) (rCl 9 j) (19 + j.val) halfAmt (s := S128x256) _ _ rfl fullShare rfl rfl (by omega) (debt_xb c j) rfl rfl rfl
    rfl (by show oPts m (xn c) (xbS (xn (xn c)) j) fullShare = _; rw [xn_xn])

/-- Two waits, for what the device sent and for what it receives over the same semaphores' slot. -/
theorem run_pair (c : Dev nD) (x y : Cl) (n : ℕ) {s : Shape} (sx sy : DmaSem sig) (hx : csem x = .dma sx) (hy : csem y = .dma sy) (v : Memref sig .tc .vmem s .f32)
    {h1 h2 h3 h4 : v.view.WordExact} (hdx : dut x 0 = {0}) (hdy : dut y 0 = {0}) (hax : v.view.dmaCredit = amt x) (hay : v.view.dmaCredit = amt y)
    (hlx : lvl x = 0) (hly : ∀ i, n ≤ i → i < 23 → lvl y < lvl (payAt i)) :
    iprop(env m K ∗ owesN c n ∗ crd c x ∗ pos c x 0 ∗ crd c y ∗ pos c y 0)
      ⊢ runs c (Prog.lift (.waitDma2 sx v v h1 h2) >>= fun _ => Prog.lift (.waitDma2 sy v v h3 h4))
          iprop(owesN c n ∗ pos c x 1 ∗ pos c y 1 ∗ pay m c x 0 0 ∗ pay m c y 0 0) := by
  iintro ⟨#HE, HO, Hc0, Hp0, Hc1, Hp1⟩
  iapply (step (wait_cell m K c x 0 n sx hx v v hdx hax (fun i _ h => by rw [hlx]; exact pay_pos i h))) $$ [Hc0 HO Hp0]
  · isplitr; · iexact HE
    isplitl [Hc0]; · iexact Hc0
    isplitl [HO] <;> iassumption
  iintro ⟨HO, Hp0, -, Ha⟩
  iapply (last (wait_cell m K c y 0 n sy hy v v hdy hay hly)) $$ [Hc1 HO Hp1]
  · isplitr; · iexact HE
    isplitl [Hc1]; · iexact Hc1
    isplitl [HO] <;> iassumption
  iintro ⟨HO, Hp1, -, Hb⟩
  isplitl [HO]; · iexact HO
  isplitl [Hp0]; · iexact Hp0
  isplitl [Hp1]; · iexact Hp1
  isplitl [Ha]; · iexact Ha
  iexact Hb

theorem run_waitX (c : Dev nD) (j : Fin 4) (n : ℕ) (hn : 15 ≤ n) :
    iprop(env m K ∗ owesN c n ∗ crd c (rCl 2 j) ∗ pos c (rCl 2 j) 0 ∗ crd c (rCl 3 j) ∗ pos c (rCl 3 j) 0)
      ⊢ runs c (waitX c j) iprop(owesN c n ∗ pos c (rCl 2 j) 1 ∗ pos c (rCl 3 j) 1 ∗ oPts m c (tileS c j) fullShare.left ∗ oPts m c (tileS (xn c) j) fullShare) :=
  run_pair m K c (rCl 2 j) (rCl 3 j) n (dsem 2 j) (dsem 3 j) rfl rfl (oTile c j) rfl rfl rfl rfl (lvl_sent _ j rfl)
    (fun i h1 h2 => by rw [lvl_tile _ j (by decide) (by decide) (by decide)]; exact lvl_after_xz i (hn.trans h1) h2)
theorem run_waitZa (c : Dev nD) (j : Fin 4) (n : ℕ) (hn : 15 ≤ n) :
    iprop(env m K ∗ owesN c n ∗ crd c (rCl 4 j) ∗ pos c (rCl 4 j) 0 ∗ crd c (rCl 5 j) ∗ pos c (rCl 5 j) 0)
      ⊢ runs c (waitZa c j) iprop(owesN c n ∗ pos c (rCl 4 j) 1 ∗ pos c (rCl 5 j) 1 ∗ oPts m c (tileS c j) fullShare.right ∗ oPts m c (tileS (zn c) j) fullShare) :=
  run_pair m K c (rCl 4 j) (rCl 5 j) n (dsem 4 j) (dsem 5 j) rfl rfl (oTile c j) rfl rfl rfl rfl (lvl_sent _ j rfl)
    (fun i h1 h2 => by rw [lvl_tile _ j (by decide) (by decide) (by decide)]; exact lvl_after_xz i (hn.trans h1) h2)
theorem run_waitZb (c : Dev nD) (j : Fin 4) :
    iprop(env m K ∗ owesN c 23 ∗ crd c (rCl 6 j) ∗ pos c (rCl 6 j) 0 ∗ crd c (rCl 7 j) ∗ pos c (rCl 7 j) 0)
      ⊢ runs c (waitZb c j) iprop(owesN c 23 ∗ pos c (rCl 6 j) 1 ∗ pos c (rCl 7 j) 1 ∗ oPts m c (zbS c j) fullShare ∗ oPts m c (zbS (zn c) j) fullShare) :=
  run_pair m K c (rCl 6 j) (rCl 7 j) 23 (dsem 6 j) (dsem 7 j) rfl rfl (oZb c j) rfl rfl rfl rfl (lvl_sent _ j rfl) (fun i h1 h2 => by omega)
theorem run_waitXb (c : Dev nD) (j : Fin 4) :
    iprop(env m K ∗ owesN c 23 ∗ crd c (rCl 8 j) ∗ pos c (rCl 8 j) 0 ∗ crd c (rCl 9 j) ∗ pos c (rCl 9 j) 0)
      ⊢ runs c (waitXb c j) iprop(owesN c 23 ∗ pos c (rCl 8 j) 1 ∗ pos c (rCl 9 j) 1 ∗ oPts m c (xbS c j) fullShare ∗ oPts m c (xbS (xn c) j) fullShare) :=
  run_pair m K c (rCl 8 j) (rCl 9 j) 23 (dsem 8 j) (dsem 9 j) rfl rfl (oXb c j) rfl rfl rfl rfl (lvl_sent _ j rfl) (fun i h1 h2 => by omega)

/-! ## The barrier -/

/-- One signal to device `n`'s barrier. -/
theorem signal_bar (c n n' : Dev nD) (hn' : n' = n) (k : ℕ) (d : Fin 3) (hk : k < 3) (hto : payTo c k = n) :
    iprop(env m K ∗ owesN c k ∗ tok n bCl 0 d ∗ pay m n bCl 0 d)
      ⊢ runs c (semSignalWord n' barS 1#32) (owesN c (k + 1)) := by
  subst hn'
  unfold owesN runs
  simp only [semSignalWord, Prog.lift]
  iintro ⟨#HE, ⟨%W, HO⟩, Ht, Hp⟩
  ihave #HI := (env_inv m K n' bCl) $$ HE
  ihave #HR := (env_reached m K n' bCl) $$ HE
  iapply (Rounds.wp_signal 𝒱₀ ER (sched m) (c : Thread nD τ) none (dst := (n' : Thread nD τ)) (κ := K (n', bCl)) (r := 0)
      (d := d) ((duties_cell m n' bCl 0).symm ▸ Finset.mem_univ d) ((amount_cell m n' bCl 0 d).trans (by decide)) () (owed c (k + 1))
      ((owed_step c k (by omega)).trans (congrArg _ ((debt_bar c k hk).trans (by rw [hto]; rfl)))) (W := W))
    $$ [HO Ht Hp]
  · isplitr; · iexact HI
    isplitl [HO]; · iexact HO
    isplitl [Ht]; · iexact Ht
    isplitl [Hp]; · iapply (Entails.of_eq (payload_cell m n' bCl 0 d).symm); iexact Hp
    iexact HR
  iintro HO
  rw [wp_ret]; imodintro
  iexists _; iexact HO

/-- The wait for the three signals: the neighbours' buffers come. -/
theorem wait_bar (c : Dev nD) :
    iprop(env m K ∗ owesN c 3 ∗ cred (tallyAt (cell c bCl) () 3) ∗ pos c bCl 0)
      ⊢ runs c (semWaitWord barS 3#32) iprop(owesN c 3 ∗ pos c bCl 1 ∗ giveX c ∗ giveY c ∗ giveZ c) := by
  unfold owesN runs
  simp only [semWaitWord, Prog.lift]
  iintro ⟨#HE, ⟨%W, HO⟩, Hc, Hp⟩
  ihave #HI := (env_inv m K c bCl) $$ HE
  ihave #HL := (env_lev m K) $$ HE
  iapply (Rounds.wp_wait_rest_token 𝒱₀ ER (sched m) (c : Thread nD τ) none (κ := K (c, bCl))
      (wpE_semWait_eq 𝒱₀ (c : Thread nD τ) none Set.univ) (Set.mem_univ _) () (O := owed c 3) (W := W) (R := 0) (m := 0) (T := ∅)
      (by rw [Nat.zero_add]; exact (expect_bar m c).symm)) $$ [Hc HO Hp]
  · isplitr; · iexact HI
    isplitl [Hc]; · iexact Hc
    isplitl [HO]; · iexact HO
    isplitr; · iapply (mayWait c (csem bCl) 3 (fun i h1 h2 => by rw [semLvl_csem]; exact lvl_after_bar i h1 h2)); iexact HL
    iexact Hp
  iintro ⟨HO, Hp, -, Hpay⟩
  ihave Hpay := (Entails.of_eq (rest_bar m c)) $$ Hpay
  rw [wp_ret]; imodintro
  isplitl [HO]; · iexists _; iexact HO
  isplitl [Hp]; · iexact Hp
  iexact Hpay

/-- The barrier: the device lets its neighbours write its buffers, and may write theirs. -/
theorem run_barrier (c : Dev nD) :
    iprop(env m K ∗ owesN c 0 ∗ cred (tallyAt (cell c bCl) () 3) ∗ pos c bCl 0
        ∗ tok (xn c) bCl 0 0 ∗ tok (yn c) bCl 0 1 ∗ tok (zn c) bCl 0 2 ∗ giveX (F := F) (xn c) ∗ giveY (F := F) (yn c) ∗ giveZ (F := F) (zn c))
      ⊢ runs c (barrier c) iprop(owesN c 3 ∗ pos c bCl 1 ∗ giveX c ∗ giveY c ∗ giveZ c) := by
  unfold barrier
  iintro ⟨#HE, HO, Hc, Hp, Hx, Hy, Hz, Gx, Gy, Gz⟩
  iapply (step (signal_bar m K c (xn c) _ (bar1_eq c) 0 0 (by decide) rfl)) $$ [HO Hx Gx]
  · isplitr; · iexact HE
    isplitl [HO]; · iexact HO
    isplitl [Hx]; · iexact Hx
    iapply (Entails.of_eq (show giveX (xn c) = pay m (xn c) bCl 0 0 from rfl)); iexact Gx
  iintro HO
  iapply (step (signal_bar m K c (yn c) _ (bar2_eq c) 1 1 (by decide) rfl)) $$ [HO Hy Gy]
  · isplitr; · iexact HE
    isplitl [HO]; · iexact HO
    isplitl [Hy]; · iexact Hy
    iapply (Entails.of_eq (show giveY (yn c) = pay m (yn c) bCl 0 1 from rfl)); iexact Gy
  iintro HO
  iapply (step (signal_bar m K c (zn c) _ (bar3_eq c) 2 2 (by decide) rfl)) $$ [HO Hz Gz]
  · isplitr; · iexact HE
    isplitl [HO]; · iexact HO
    isplitl [Hz]; · iexact Hz
    iapply (Entails.of_eq (show giveZ (zn c) = pay m (zn c) bCl 0 2 from rfl)); iexact Gz
  iintro HO
  iapply (wait_bar m K c)
  isplitr; · iexact HE
  isplitl [HO]; · iexact HO
  isplitl [Hc] <;> iassumption

end Cert.KernelIdeal.Mm

end
-- ==== Proof.Ideal.Stages.lean ====
/- What each stage of the body does, chunk by chunk. -/
module

public import proofs.«01_k».proof.Proof.Ideal.Steps
public import proofs.«01_k».proof.Proof.Ideal.Sends

@[expose] public section

noncomputable section

namespace Cert.KernelIdeal.Mm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAlg ℕ

/-- A separating conjunction over the four chunks, written out. -/
theorem bigSep_four (Φ : Fin 4 → sProp 𝕄) : bigSep Finset.univ Φ = iprop(Φ 0 ∗ Φ 1 ∗ Φ 2 ∗ Φ 3) := by
  rw [bigSep_univ_eq_bigSepL [(0 : Fin 4), 1, 2, 3] (by decide) (by decide), bigSepL_cons_cons, bigSepL_cons_cons, bigSepL_cons_cons, bigSepL_singleton]
  rfl

section
variable (m : (ℓ : Loc nD τ sig) → Buf (Elt F) ℓ) (K : Dev nD × Cl → ℕ)

/-- A step run for the four chunks in turn, each taking its own resources and a running one. -/
theorem run_four (c : Dev nD) (p : Fin 4 → Pg F PUnit) (A B : Fin 4 → sProp 𝕄) (I : ℕ → sProp 𝕄)
    (h : ∀ j : Fin 4, iprop(env m K ∗ A j ∗ I j.val) ⊢ runs c (p j) iprop(B j ∗ I (j.val + 1))) :
    iprop(env m K ∗ bigSep Finset.univ A ∗ I 0) ⊢ runs c (four p) iprop(bigSep Finset.univ B ∗ I 4) := by
  have h0 : iprop(env m K ∗ A 0 ∗ I 0) ⊢ runs c (p 0) iprop(B 0 ∗ I 1) := h 0
  have h1 : iprop(env m K ∗ A 1 ∗ I 1) ⊢ runs c (p 1) iprop(B 1 ∗ I 2) := h 1
  have h2 : iprop(env m K ∗ A 2 ∗ I 2) ⊢ runs c (p 2) iprop(B 2 ∗ I 3) := h 2
  have h3 : iprop(env m K ∗ A 3 ∗ I 3) ⊢ runs c (p 3) iprop(B 3 ∗ I 4) := h 3
  rw [bigSep_four, bigSep_four]
  unfold four
  iintro ⟨#HE, ⟨H0, H1, H2, H3⟩, HI⟩
  iapply (step h0) $$ [H0 HI]
  · isplitr; · iexact HE
    isplitl [H0] <;> iassumption
  iintro ⟨B0, HI⟩
  iapply (step h1) $$ [H1 HI]
  · isplitr; · iexact HE
    isplitl [H1] <;> iassumption
  iintro ⟨B1, HI⟩
  iapply (step h2) $$ [H2 HI]
  · isplitr; · iexact HE
    isplitl [H2] <;> iassumption
  iintro ⟨B2, HI⟩
  iapply (last h3) $$ [H3 HI]
  · isplitr; · iexact HE
    isplitl [H3] <;> iassumption
  iintro ⟨B3, HI⟩
  isplitr [HI]
  · isplitl [B0]; · iexact B0
    isplitl [B1]; · iexact B1
    isplitl [B2] <;> iassumption
  iexact HI

/-! ## The products -/

/-- What product `j` takes of chunk `j`'s slots; -/
def mulIn (c : Dev nD) (j : Fin 4) : sProp 𝕄 := iprop(pAny c j ∗ rAny (yn c) j ∗ tok c (rCl 0 j) 0 0 ∗ tok (yn c) (rCl 1 j) 0 0)

/-- One product, the next chunk of `W` being copied meanwhile. -/
theorem run_mulStep (c : Dev nD) (j j' : Fin 4) (x x' : Fin 3) (s s' : Fin 2) (r r' R₁ n n' : ℕ) (k : Pg F PUnit) (R : sProp 𝕄)
    (hx : x = ⟨j.val % 2, by omega⟩) (hx' : x' = ⟨j'.val % 2, by omega⟩) (hs : s = par j) (hs' : s' = par j') (hr : r = j.val / 2) (hr' : r' = j'.val / 2)
    (hR : R₁ = j.val / 2 + 1) (hn : n = 3 + j.val) (hn' : n' = 3 + j.val + 1) :
    iprop(env m K ∗ dyOwn m c ∗ owesN c n ∗ (crd c (lCl x) ∗ pos c (lCl x) r)
        ∗ (wSrc m c j' ∗ wAny c s' ∗ tok c (lCl x') r' 0 ∗ reached ER (cell c (lCl x')) r') ∗ mulIn c j)
      ⊢ iprop(((dyOwn m c ∗ owesN c n' ∗ crd c (lCl x') ∗ pos c (lCl x) R₁ ∗ reached ER (cell c (lCl x)) R₁
            ∗ wAny c s ∗ wSrc m c j ∗ crd c (rCl 0 j)) -∗ runs c k R)
          -∗ runs c (waitW j >>= fun _ => startW j' >>= fun _ => mulW j >>= fun _ => sendY c j >>= fun _ => k) R) := by
  subst hx hx' hs hs' hr hr' hR hn hn'
  unfold mulIn
  iintro ⟨#HE, Hd, HO, ⟨Hc, Hp⟩, Hw, ⟨Ha, Hr, Hx, Hy⟩⟩ Hk
  iapply (step (run_waitW m K c j (3 + j.val))) $$ [Hc HO Hp]
  · isplitr; · iexact HE
    isplitl [Hc]; · iexact Hc
    isplitl [HO] <;> iassumption
  iintro ⟨HO, Hp, #HR, Hw1, Hs1⟩
  iapply (step (run_startW m K c j')) $$ [Hw]
  · isplitr; · iexact HE
    iexact Hw
  iintro Hc'
  iapply (step (run_mulW m c j)) $$ [Hd Hw1 Ha]
  · isplitl [Hd]; · iexact Hd
    isplitl [Hw1] <;> iassumption
  iintro ⟨Hd, Hw1, Ha⟩
  iapply (step (run_sendY m K c j)) $$ [Ha Hr HO Hx Hy]
  · isplitr; · iexact HE
    isplitl [Ha]; · iexact Ha
    isplitl [Hr]; · iexact Hr
    isplitl [HO]; · iexact HO
    isplitl [Hx] <;> iassumption
  iintro ⟨Hc, HO⟩
  iapply Hk
  isplitl [Hd]; · iexact Hd
  isplitl [HO]; · iexact HO
  isplitl [Hc']; · iexact Hc'
  isplitl [Hp]; · iexact Hp
  isplitr; · iexact HR
  isplitl [Hw1]; · iexact Hw1
  isplitl [Hs1] <;> iassumption

/-- What the products take of the local copies, the first chunk's copy being under way. -/
def mulPre (c : Dev nD) : sProp 𝕄 :=
  iprop(crd c (lCl 2) ∗ pos c (lCl 2) 0 ∗ crd c (lCl 0) ∗ pos c (lCl 0) 0 ∗ pos c (lCl 1) 0 ∗ wAny c 1
    ∗ (wSrc m c 1 ∗ wSrc m c 2 ∗ wSrc m c 3) ∗ (tok c (lCl 1) 0 0 ∗ tok c (lCl 0) 1 0 ∗ tok c (lCl 1) 1 0))
/-- What they leave. -/
def mulPost (c : Dev nD) : sProp 𝕄 :=
  iprop(pos c (lCl 0) 2 ∗ pos c (lCl 1) 2 ∗ pos c (lCl 2) 1 ∗ dyOwn m c ∗ dySrc m c ∗ (wAny (F := F) c 0 ∗ wAny c 1) ∗ bigSep Finset.univ (fun j : Fin 4 => wSrc m c j))

set_option maxHeartbeats 1600000 in
theorem run_stageMul (c : Dev nD) :
    iprop(env m K ∗ owesN c 3 ∗ mulPre m c ∗ bigSep Finset.univ (fun j : Fin 4 => mulIn (F := F) c j))
      ⊢ runs c (stageMul c) iprop(owesN c 7 ∗ mulPost m c ∗ bigSep Finset.univ (fun j : Fin 4 => crd c (rCl 0 j))) := by
  rw [bigSep_four, bigSep_four]
  unfold mulPre mulPost stageMul
  rw [bigSep_four]
  iintro ⟨#HE, HO, ⟨Hcd, Hpd, Hc0, Hp0, Hp1, Hv1, ⟨Hs1, Hs2, Hs3⟩, ⟨Ht1, Ht2, Ht3⟩⟩, ⟨M0, M1, M2, M3⟩⟩
  iapply (step (run_waitDy m K c 3)) $$ [Hcd HO Hpd]
  · isplitr; · iexact HE
    isplitl [Hcd]; · iexact Hcd
    isplitl [HO] <;> iassumption
  iintro ⟨HO, Hpd, Hd, Hsd⟩
  ihave #HR1 := (env_reached m K c (lCl 1)) $$ HE
  iapply (run_mulStep m K c 0 1 0 1 0 1 0 0 1 3 4 _ _ rfl rfl rfl rfl rfl rfl rfl rfl rfl) $$ [Hd HO Hc0 Hp0 Hs1 Hv1 Ht1 M0]
  · isplitr; · iexact HE
    isplitl [Hd]; · iexact Hd
    isplitl [HO]; · iexact HO
    isplitl [Hc0 Hp0]; · isplitl [Hc0] <;> iassumption
    isplitl [Hs1 Hv1 Ht1]
    · isplitl [Hs1]; · iexact Hs1
      isplitl [Hv1]; · iexact Hv1
      isplitl [Ht1]; · iexact Ht1
      iexact HR1
    iexact M0
  iintro ⟨Hd, HO, Hc1, Hp0, #HR2, Hv0, Hs0, C0⟩
  iapply (run_mulStep m K c 1 2 1 0 1 0 0 1 1 4 5 _ _ rfl rfl rfl rfl rfl rfl rfl rfl rfl) $$ [Hd HO Hc1 Hp1 Hs2 Hv0 Ht2 M1]
  · isplitr; · iexact HE
    isplitl [Hd]; · iexact Hd
    isplitl [HO]; · iexact HO
    isplitl [Hc1 Hp1]; · isplitl [Hc1] <;> iassumption
    isplitl [Hs2 Hv0 Ht2]
    · isplitl [Hs2]; · iexact Hs2
      isplitl [Hv0]; · iexact Hv0
      isplitl [Ht2]; · iexact Ht2
      iexact HR2
    iexact M1
  iintro ⟨Hd, HO, Hc2, Hp1, #HR3, Hv1, Hs1, C1⟩
  iapply (run_mulStep m K c 2 3 0 1 0 1 1 1 2 5 6 _ _ rfl rfl rfl rfl rfl rfl rfl rfl rfl) $$ [Hd HO Hc2 Hp0 Hs3 Hv1 Ht3 M2]
  · isplitr; · iexact HE
    isplitl [Hd]; · iexact Hd
    isplitl [HO]; · iexact HO
    isplitl [Hc2 Hp0]; · isplitl [Hc2] <;> iassumption
    isplitl [Hs3 Hv1 Ht3]
    · isplitl [Hs3]; · iexact Hs3
      isplitl [Hv1]; · iexact Hv1
      isplitl [Ht3]; · iexact Ht3
      iexact HR3
    iexact M2
  iintro ⟨Hd, HO, Hc3, Hp0, -, Hv0, Hs2, C2⟩
  have hw3 : iprop(env m K ∗ crd c (lCl 1) ∗ owesN c 6 ∗ pos c (lCl 1) 1)
      ⊢ runs c (waitW 3) iprop(owesN c 6 ∗ pos c (lCl 1) 2 ∗ reached ER (cell c (lCl 1)) 2 ∗ wOwn c 1 (wv m c 3) ∗ wSrc m c 3) := run_waitW m K c 3 6
  have hm3 : iprop(dyOwn m c ∗ wOwn c 1 (wv m c 3) ∗ pAny c 3) ⊢ runs c (mulW 3) iprop(dyOwn m c ∗ wAny c 1 ∗ pOwn c 3 (part m c 3)) := run_mulW m c 3
  have hs3 : iprop(env m K ∗ pOwn c 3 (part m c 3) ∗ rAny (yn c) 3 ∗ owesN c 6 ∗ tok c (rCl 0 3) 0 0 ∗ tok (yn c) (rCl 1 3) 0 0)
      ⊢ runs c (sendY c 3) iprop(crd c (rCl 0 3) ∗ owesN c 7) := run_sendY m K c 3
  iapply (step hw3) $$ [Hc3 HO Hp1]
  · isplitr; · iexact HE
    isplitl [Hc3]; · iexact Hc3
    isplitl [HO] <;> iassumption
  iintro ⟨HO, Hp1, -, Hv1, Hs3⟩
  unfold mulIn
  icases M3 with ⟨Ha, Hr, Hx, Hy⟩
  iapply (step hm3) $$ [Hd Hv1 Ha]
  · isplitl [Hd]; · iexact Hd
    isplitl [Hv1] <;> iassumption
  iintro ⟨Hd, Hv1, Ha⟩
  iapply (last hs3) $$ [Ha Hr HO Hx Hy]
  · isplitr; · iexact HE
    isplitl [Ha]; · iexact Ha
    isplitl [Hr]; · iexact Hr
    isplitl [HO]; · iexact HO
    isplitl [Hx] <;> iassumption
  iintro ⟨C3, HO⟩
  isplitl [HO]; · iexact HO
  isplitr [C0 C1 C2 C3]
  · isplitl [Hp0]; · iexact Hp0
    isplitl [Hp1]; · iexact Hp1
    isplitl [Hpd]; · iexact Hpd
    isplitl [Hd]; · iexact Hd
    isplitl [Hsd]; · iexact Hsd
    isplitl [Hv0 Hv1]; · isplitl [Hv0] <;> iassumption
    isplitl [Hs0]; · iexact Hs0
    isplitl [Hs1]; · iexact Hs1
    isplitl [Hs2] <;> iassumption
  isplitl [C0]; · iexact C0
  isplitl [C1]; · iexact C1
  isplitl [C2] <;> iassumption

/-! ## The device's own tiles -/

/-- What a chunk's addition and its two copies take; -/
def ownIn (c : Dev nD) (j : Fin 4) : sProp 𝕄 :=
  iprop((pos c (rCl 0 j) 0 ∗ pos c (rCl 1 j) 0 ∗ crd c (rCl 1 j) ∗ oAny c (tileS c j) ∗ tok c (rCl 2 j) 0 0 ∗ tok (xn c) (rCl 3 j) 0 0 ∗ tok c (rCl 4 j) 0 0 ∗ tok (zn c) (rCl 5 j) 0 0)
    ∗ crd c (rCl 0 j) ∗ oAny (xn c) (tileS c j) ∗ oAny (zn c) (tileS c j))
/-- what they leave. -/
def ownOut (c : Dev nD) (j : Fin 4) : sProp 𝕄 :=
  iprop((pos c (rCl 0 j) 1 ∗ pos c (rCl 1 j) 1 ∗ pAny c j ∗ rAny c j) ∗ crd c (rCl 2 j) ∗ crd c (rCl 4 j))

theorem run_stepOwn (c : Dev nD) (j : Fin 4) :
    iprop(env m K ∗ ownIn c j ∗ owesN c (7 + 2 * j.val)) ⊢ runs c (stepOwn c j) iprop(ownOut c j ∗ owesN c (7 + 2 * (j.val + 1))) := by
  unfold ownIn ownOut stepOwn
  iintro ⟨#HE, ⟨⟨Hp0, Hp1, Hc1, Ho, T2, T3, T4, T5⟩, Hc0, Gx, Gz⟩, HO⟩
  iapply (step (run_waitY m K c j (7 + 2 * j.val) (by omega))) $$ [HO Hc0 Hp0 Hc1 Hp1]
  · isplitr; · iexact HE
    isplitl [HO]; · iexact HO
    isplitl [Hc0]; · iexact Hc0
    isplitl [Hp0]; · iexact Hp0
    isplitl [Hc1] <;> iassumption
  iintro ⟨HO, Hp0, Hp1, Ha, Hb⟩
  iapply (step (run_addOwn m c j)) $$ [Ha Hb Ho]
  · isplitl [Ha]; · iexact Ha
    isplitl [Hb] <;> iassumption
  iintro ⟨Ha, Hb, Ho⟩
  ihave Ho := (oPts_halves m c (tileS c j)) $$ Ho
  icases Ho with ⟨Hl, Hr⟩
  iapply (step (run_sendX m K c j)) $$ [Hl Gx HO T2 T3]
  · isplitr; · iexact HE
    isplitl [Hl]; · iexact Hl
    isplitl [Gx]; · iexact Gx
    isplitl [HO]; · iexact HO
    isplitl [T2] <;> iassumption
  iintro ⟨C2, HO⟩
  rw [show 7 + 2 * j.val + 1 = 8 + 2 * j.val by omega]
  iapply (last (run_sendZa m K c j)) $$ [Hr Gz HO T4 T5]
  · isplitr; · iexact HE
    isplitl [Hr]; · iexact Hr
    isplitl [Gz]; · iexact Gz
    isplitl [HO]; · iexact HO
    isplitl [T4] <;> iassumption
  iintro ⟨C4, HO⟩
  rw [show 8 + 2 * j.val + 1 = 7 + 2 * (j.val + 1) by omega]
  isplitr [HO]
  · isplitr [C2 C4]
    · isplitl [Hp0]; · iexact Hp0
      isplitl [Hp1]; · iexact Hp1
      isplitl [Ha]
      · unfold pOwn pAny; icases Ha with ⟨%f, %hf, Ha⟩; iexists f; iexact Ha
      unfold rOwn rAny; icases Hb with ⟨%f, %hf, Hb⟩; iexists f; iexact Hb
    isplitl [C2] <;> iassumption
  iexact HO

/-! ## The tiles received, and the forwards -/

/-- What a chunk takes for the tile received along `x` and the forward of its upper half; -/
def xIn (c : Dev nD) (j : Fin 4) : sProp 𝕄 :=
  iprop((pos c (rCl 2 j) 0 ∗ pos c (rCl 3 j) 0 ∗ crd c (rCl 3 j) ∗ tok c (rCl 6 j) 0 0 ∗ tok (zn c) (rCl 7 j) 0 0) ∗ crd c (rCl 2 j) ∗ oAny (zn c) (zbS c j))
def xOut (c : Dev nD) (j : Fin 4) : sProp 𝕄 :=
  iprop((pos c (rCl 2 j) 1 ∗ pos c (rCl 3 j) 1 ∗ oPts m c (tileS c j) fullShare.left ∗ oPts m c (tileS (xn c) j \ zbS c j) fullShare) ∗ crd c (rCl 6 j))
/-- along `z`, and the forward of its lower half. -/
def zIn (c : Dev nD) (j : Fin 4) : sProp 𝕄 :=
  iprop((pos c (rCl 4 j) 0 ∗ pos c (rCl 5 j) 0 ∗ crd c (rCl 5 j) ∗ tok c (rCl 8 j) 0 0 ∗ tok (xn c) (rCl 9 j) 0 0) ∗ crd c (rCl 4 j) ∗ oAny (xn c) (xbS c j))
def zOut (c : Dev nD) (j : Fin 4) : sProp 𝕄 :=
  iprop((pos c (rCl 4 j) 1 ∗ pos c (rCl 5 j) 1 ∗ oPts m c (tileS c j) fullShare.right ∗ oPts m c (tileS (zn c) j \ xbS c j) fullShare) ∗ crd c (rCl 8 j))
/-- What the last waits take and leave. -/
def endIn (c : Dev nD) (j : Fin 4) : sProp 𝕄 :=
  iprop((pos c (rCl 6 j) 0 ∗ pos c (rCl 7 j) 0 ∗ crd c (rCl 7 j) ∗ pos c (rCl 8 j) 0 ∗ pos c (rCl 9 j) 0 ∗ crd c (rCl 9 j)) ∗ crd c (rCl 6 j) ∗ crd c (rCl 8 j))
def endOut (c : Dev nD) (j : Fin 4) : sProp 𝕄 :=
  iprop((pos c (rCl 6 j) 1 ∗ pos c (rCl 7 j) 1 ∗ pos c (rCl 8 j) 1 ∗ pos c (rCl 9 j) 1)
    ∗ oPts m c (zbS c j) fullShare ∗ oPts m c (zbS (zn c) j) fullShare ∗ oPts m c (xbS c j) fullShare ∗ oPts m c (xbS (xn c) j) fullShare)

theorem run_stepX (c : Dev nD) (j : Fin 4) :
    iprop(env m K ∗ xIn c j ∗ owesN c (15 + j.val)) ⊢ runs c (stepX c j) iprop(xOut m c j ∗ owesN c (15 + (j.val + 1))) := by
  unfold xIn xOut stepX
  iintro ⟨#HE, ⟨⟨Hp2, Hp3, Hc3, T6, T7⟩, Hc2, Gz⟩, HO⟩
  iapply (step (run_waitX m K c j (15 + j.val) (by omega))) $$ [HO Hc2 Hp2 Hc3 Hp3]
  · isplitr; · iexact HE
    isplitl [HO]; · iexact HO
    isplitl [Hc2]; · iexact Hc2
    isplitl [Hp2]; · iexact Hp2
    isplitl [Hc3] <;> iassumption
  iintro ⟨HO, Hp2, Hp3, Ha, Hb⟩
  ihave Hb := (oPts_split m c fullShare (zbS_subset c j)) $$ Hb
  icases Hb with ⟨Hz, Hb⟩
  iapply (last (run_sendZb m K c j)) $$ [Hz Gz HO T6 T7]
  · isplitr; · iexact HE
    isplitl [Hz]; · iexact Hz
    isplitl [Gz]; · iexact Gz
    isplitl [HO]; · iexact HO
    isplitl [T6] <;> iassumption
  iintro ⟨C6, HO⟩
  isplitr [HO]
  · isplitr [C6]
    · isplitl [Hp2]; · iexact Hp2
      isplitl [Hp3]; · iexact Hp3
      isplitl [Ha] <;> iassumption
    iexact C6
  iexact HO

theorem run_stepZ (c : Dev nD) (j : Fin 4) :
    iprop(env m K ∗ zIn c j ∗ owesN c (19 + j.val)) ⊢ runs c (stepZ c j) iprop(zOut m c j ∗ owesN c (19 + (j.val + 1))) := by
  unfold zIn zOut stepZ
  iintro ⟨#HE, ⟨⟨Hp2, Hp3, Hc3, T6, T7⟩, Hc2, Gz⟩, HO⟩
  iapply (step (run_waitZa m K c j (19 + j.val) (by omega))) $$ [HO Hc2 Hp2 Hc3 Hp3]
  · isplitr; · iexact HE
    isplitl [HO]; · iexact HO
    isplitl [Hc2]; · iexact Hc2
    isplitl [Hp2]; · iexact Hp2
    isplitl [Hc3] <;> iassumption
  iintro ⟨HO, Hp2, Hp3, Ha, Hb⟩
  ihave Hb := (oPts_split m c fullShare (xbS_subset c j)) $$ Hb
  icases Hb with ⟨Hz, Hb⟩
  iapply (last (run_sendXb m K c j)) $$ [Hz Gz HO T6 T7]
  · isplitr; · iexact HE
    isplitl [Hz]; · iexact Hz
    isplitl [Gz]; · iexact Gz
    isplitl [HO]; · iexact HO
    isplitl [T6] <;> iassumption
  iintro ⟨C6, HO⟩
  isplitr [HO]
  · isplitr [C6]
    · isplitl [Hp2]; · iexact Hp2
      isplitl [Hp3]; · iexact Hp3
      isplitl [Ha] <;> iassumption
    iexact C6
  iexact HO

theorem run_stepEnd (c : Dev nD) (j : Fin 4) :
    iprop(env m K ∗ endIn c j ∗ owesN c 23) ⊢ runs c (stepEnd c j) iprop(endOut m c j ∗ owesN c 23) := by
  unfold endIn endOut stepEnd
  iintro ⟨#HE, ⟨⟨Hp6, Hp7, Hc7, Hp8, Hp9, Hc9⟩, Hc6, Hc8⟩, HO⟩
  iapply (step (run_waitZb m K c j)) $$ [HO Hc6 Hp6 Hc7 Hp7]
  · isplitr; · iexact HE
    isplitl [HO]; · iexact HO
    isplitl [Hc6]; · iexact Hc6
    isplitl [Hp6]; · iexact Hp6
    isplitl [Hc7] <;> iassumption
  iintro ⟨HO, Hp6, Hp7, Ha, Hb⟩
  iapply (last (run_waitXb m K c j)) $$ [HO Hc8 Hp8 Hc9 Hp9]
  · isplitr; · iexact HE
    isplitl [HO]; · iexact HO
    isplitl [Hc8]; · iexact Hc8
    isplitl [Hp8]; · iexact Hp8
    isplitl [Hc9] <;> iassumption
  iintro ⟨HO, Hp8, Hp9, Hc, Hd⟩
  isplitr [HO]
  · isplitr [Ha Hb Hc Hd]
    · isplitl [Hp6]; · iexact Hp6
      isplitl [Hp7]; · iexact Hp7
      isplitl [Hp8] <;> iassumption
    isplitl [Ha]; · iexact Ha
    isplitl [Hb]; · iexact Hb
    isplitl [Hc] <;> iassumption
  iexact HO

end

end Cert.KernelIdeal.Mm

end
-- ==== Proof.Ideal.Whole.lean ====
/- The buffers cut into the pieces the steps use, and put together again; the resources of a chunk listed by cell. -/
module

public import proofs.«01_k».proof.Proof.Ideal.Stages

@[expose] public section

noncomputable section

namespace Cert.KernelIdeal.Mm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAlg ℕ

/-! ## Any buffer -/

section Cut
variable {T : Type} [Fintype T] [DecidableEq T] [Nonempty T] {ℓ : Loc nD τ sig} {P : T → Finset (Idx ℓ)}

/-- A whole buffer is its pieces, at the same contents; -/
theorem cut (hd : ∀ t ∈ (Finset.univ : Finset T), ∀ t' ∈ (Finset.univ : Finset T), t ≠ t' → Disjoint (P t) (P t')) (hc : (Finset.univ : Finset T).biUnion P = Finset.univ)
    (q : PosShare TreeShare) (f : Buf (Elt F) ℓ) : (ℓ ↦{q} f : sProp 𝕄) = bigSep Finset.univ fun t => ℓ ↦[P t]{q} f := by
  rw [← pointsTo_biUnion Finset.univ P hd, hc]
/-- its pieces with any contents, -/
theorem cut_any (hd : ∀ t ∈ (Finset.univ : Finset T), ∀ t' ∈ (Finset.univ : Finset T), t ≠ t' → Disjoint (P t) (P t')) (hc : (Finset.univ : Finset T).biUnion P = Finset.univ)
    : iprop(∃ f : Buf (Elt F) ℓ, ℓ ↦{fullShare} f) ⊢ (bigSep Finset.univ fun t => iprop(∃ f : Buf (Elt F) ℓ, ℓ ↦[P t]{fullShare} f) : sProp 𝕄) := by
  iintro ⟨%f, H⟩
  ihave H := (Entails.of_eq (cut hd hc fullShare f)) $$ H
  have h : (bigSep Finset.univ fun t => (ℓ ↦[P t]{fullShare} f : sProp 𝕄)) ⊢ (bigSep Finset.univ fun t => iprop(∃ f : Buf (Elt F) ℓ, ℓ ↦[P t]{fullShare} f) : sProp 𝕄) :=
    bigSep_mono fun t _ => show (ℓ ↦[P t]{fullShare} f : sProp 𝕄) ⊢ iprop(∃ f : Buf (Elt F) ℓ, ℓ ↦[P t]{fullShare} f) by iintro H; iexists f; iexact H
  iapply h; iexact H
/-- and back. -/
theorem join_any (hd : ∀ t ∈ (Finset.univ : Finset T), ∀ t' ∈ (Finset.univ : Finset T), t ≠ t' → Disjoint (P t) (P t')) (hc : (Finset.univ : Finset T).biUnion P = Finset.univ)
    : (bigSep Finset.univ fun t => iprop(∃ f : Buf (Elt F) ℓ, ℓ ↦[P t]{fullShare} f) : sProp 𝕄) ⊢ iprop(∃ f : Buf (Elt F) ℓ, ℓ ↦{fullShare} f) := by
  iintro H
  ihave H := (BI.bigSep_exists_pi Finset.univ (fun (t : T) (f : Buf (Elt F) ℓ) => (ℓ ↦[P t]{fullShare} f : sProp 𝕄))) $$ H
  icases H with ⟨%fs, H⟩
  ihave H := (pointsTo_biUnion_join Finset.univ P fs (fs (Classical.arbitrary T)) hd) $$ H
  icases H with ⟨%g, -, H⟩
  iexists g
  iapply (Entails.of_eq (congrArg (fun S => (ℓ ↦[S]{fullShare} g : sProp 𝕄)) hc)); iexact H
end Cut

/-- Two families, put together chunk by chunk. -/
theorem zip {T : Type} [Fintype T] {A B C : T → sProp 𝕄} (h : ∀ t, iprop(A t ∗ B t) ⊢ C t) :
    iprop(bigSep Finset.univ A ∗ bigSep Finset.univ B) ⊢ bigSep Finset.univ C :=
  (Entails.of_eq (bigSep_sep' Finset.univ A B).symm).trans (bigSep_mono fun t _ => h t)
/-- One family, taken apart. -/
theorem unzip {T : Type} [Fintype T] {A B C : T → sProp 𝕄} (h : ∀ t, C t ⊢ iprop(A t ∗ B t)) :
    bigSep Finset.univ C ⊢ iprop(bigSep Finset.univ A ∗ bigSep Finset.univ B) :=
  (bigSep_mono fun t _ => h t).trans (Entails.of_eq (bigSep_sep' Finset.univ A B))

/-! ## This kernel's buffers -/

section Bufs
variable (m : (ℓ : Loc nD τ sig) → Buf (Elt F) ℓ) (c : Dev nD)

/-- A buffer with any contents. -/
abbrev anyBuf (b : Ref sig .tc) : sProp 𝕄 := iprop(∃ f : Buf (Elt F) ((c : Thread nD τ).loc b), ((c : Thread nD τ).loc b) ↦{fullShare} f)

theorem cut_p : anyBuf (F := F) c cc0_scratch2 ⊢ bigSep Finset.univ fun j : Fin 4 => pAny (F := F) c j :=
  cut_any (ℓ := (c : Thread nD τ).loc cc0_scratch2) (fun j _ k _ h => slot_disjoint h) slot_cover
theorem join_p : (bigSep Finset.univ fun j : Fin 4 => pAny (F := F) c j) ⊢ anyBuf (F := F) c cc0_scratch2 :=
  join_any (ℓ := (c : Thread nD τ).loc cc0_scratch2) (fun j _ k _ h => slot_disjoint h) slot_cover
theorem cut_r : anyBuf (F := F) c cc0_scratch3 ⊢ bigSep Finset.univ fun j : Fin 4 => rAny (F := F) c j :=
  cut_any (ℓ := (c : Thread nD τ).loc cc0_scratch3) (fun j _ k _ h => slot_disjoint h) slot_cover
theorem join_r : (bigSep Finset.univ fun j : Fin 4 => rAny (F := F) c j) ⊢ anyBuf (F := F) c cc0_scratch3 :=
  join_any (ℓ := (c : Thread nD τ).loc cc0_scratch3) (fun j _ k _ h => slot_disjoint h) slot_cover

theorem bigSep_two (Φ : Fin 2 → sProp 𝕄) : bigSep Finset.univ Φ = iprop(Φ 0 ∗ Φ 1) := by
  rw [bigSep_univ_eq_bigSepL [(0 : Fin 2), 1] (by decide) (by decide), bigSepL_cons_cons, bigSepL_singleton]; rfl
theorem cut_v : anyBuf (F := F) c cc0_scratch1 ⊢ iprop(wAny (F := F) c 0 ∗ wAny c 1) :=
  (cut_any (ℓ := (c : Thread nD τ).loc cc0_scratch1) (fun j _ k _ h => wslot_disjoint h) wslot_cover).trans (Entails.of_eq (bigSep_two fun s => wAny (F := F) c s))
theorem join_v : iprop(wAny (F := F) c 0 ∗ wAny c 1) ⊢ anyBuf (F := F) c cc0_scratch1 :=
  (Entails.of_eq (bigSep_two fun s => wAny (F := F) c s).symm).trans
    (join_any (ℓ := (c : Thread nD τ).loc cc0_scratch1) (fun j _ k _ h => wslot_disjoint h) wslot_cover)

/-- The device's block of `W` is its four chunks. -/
theorem cut_w : ((((c : Thread nD τ).loc main_arg1) ↦{fullShare} (wA m c)) : sProp 𝕄) = bigSep Finset.univ fun j : Fin 4 => wSrc m c j :=
  cut (ℓ := (c : Thread nD τ).loc main_arg1) (fun j _ k _ h => wchunk_disjoint h) wchunk_cover fullShare (wA m c)
/-- The rows of `dy` the device does not copy. -/
def dyRest : sProp 𝕄 := iprop(((c : Thread nD τ).loc main_arg0) ↦[Finset.univ \ dyS c]{fullShare} (dyA m c))
theorem cut_dy : ((((c : Thread nD τ).loc main_arg0) ↦{fullShare} (dyA m c)) : sProp 𝕄) ⊢ iprop(dySrc m c ∗ dyRest m c) :=
  (pointsTo_split_subset (Finset.subset_univ _)).1
theorem join_dy : iprop(dySrc m c ∗ dyRest m c) ⊢ ((((c : Thread nD τ).loc main_arg0) ↦{fullShare} (dyA m c)) : sProp 𝕄) :=
  (pointsTo_split_subset (Finset.subset_univ _)).2

/-- A chunk's five pieces of the result. -/
abbrev five (Φ : Finset OIx → sProp 𝕄) (j : Fin 4) : sProp 𝕄 :=
  iprop(Φ (tileS c j) ∗ Φ (tileS (xn c) j) ∗ Φ (tileS (zn c) j) ∗ Φ (zbS (zn c) j) ∗ Φ (xbS (xn c) j))
theorem bigSep_pieces (Φ : Finset OIx → sProp 𝕄) :
    (bigSep Finset.univ fun aj : Fin 5 × Fin 4 => Φ (piece c aj)) = bigSep Finset.univ fun j : Fin 4 => five c Φ j := by
  rw [bigSep_univ_prod, BI.bigSep_univ_comm]
  refine bigSep_congr fun j _ => ?_
  rw [bigSep_univ_eq_bigSepL [(0 : Fin 5), 1, 2, 3, 4] (by decide) (by decide), bigSepL_cons_cons, bigSepL_cons_cons, bigSepL_cons_cons, bigSepL_cons_cons, bigSepL_singleton]
  rfl
theorem cut_o : anyBuf (F := F) c cc0_stg0_0 ⊢ bigSep Finset.univ fun j : Fin 4 => five c (fun S => oAny (F := F) c S) j :=
  (cut_any (ℓ := (c : Thread nD τ).loc cc0_stg0_0) (piece_disjoint c) (piece_cover c)).trans (Entails.of_eq (bigSep_pieces c fun S => oAny (F := F) c S))
theorem join_o : (bigSep Finset.univ fun j : Fin 4 => five c (fun S => oPts m c S fullShare) j) ⊢ ((((c : Thread nD τ).loc cc0_stg0_0) ↦{fullShare} (outAt m c)) : sProp 𝕄) :=
  (Entails.of_eq (bigSep_pieces c fun S => oPts m c S fullShare).symm).trans
    (Entails.of_eq (cut (ℓ := (c : Thread nD τ).loc cc0_stg0_0) (piece_disjoint c) (piece_cover c) fullShare (outAt m c)).symm)

/-- The parts of a device's result that each neighbour may write. -/
theorem give_all : (bigSep Finset.univ fun j : Fin 4 => five c (fun S => oAny (F := F) c S) j)
    ⊢ iprop((bigSep Finset.univ fun j : Fin 4 => oAny (F := F) c (tileS c j)) ∗ giveX (F := F) (xn c) ∗ giveZ (F := F) (zn c)) := by
  unfold giveX giveZ
  rw [xn_xn, zn_zn, ← bigSep_sep', ← bigSep_sep']
  refine bigSep_mono fun j _ => ?_
  show iprop(oAny (F := F) c (tileS c j) ∗ oAny c (tileS (xn c) j) ∗ oAny c (tileS (zn c) j) ∗ oAny c (zbS (zn c) j) ∗ oAny c (xbS (xn c) j)) ⊢ _
  iintro ⟨H0, H1, H2, H3, H4⟩
  isplitl [H0]; · iexact H0
  isplitl [H1 H4]; · isplitl [H1] <;> iassumption
  isplitl [H2] <;> iassumption
theorem give_y : (bigSep Finset.univ fun j : Fin 4 => rAny (F := F) c j) ⊢ giveY (F := F) (yn c) := by
  unfold giveY; rw [yn_yn]

/-- A tile's part sent on and the rest of it. -/
theorem oPts_join (q : PosShare TreeShare) {I S : Finset OIx} (h : I ⊆ S) :
    iprop(oPts (F := F) m c I q ∗ oPts m c (S \ I) q) ⊢ oPts m c S q := (pointsTo_split_subset h).2
theorem oPts_whole (S : Finset OIx) : iprop(oPts (F := F) m c S fullShare.left ∗ oPts m c S fullShare.right) ⊢ oPts m c S fullShare :=
  (pointsTo_share (PosShare.mem_left_op_right fullShare)).2

end Bufs

/-! ## The ten arrays of semaphores -/

/-- A separating conjunction over the ten arrays, written out. -/
abbrev ten (Φ : Fin 10 → sProp 𝕄) : sProp 𝕄 := iprop(Φ 0 ∗ Φ 1 ∗ Φ 2 ∗ Φ 3 ∗ Φ 4 ∗ Φ 5 ∗ Φ 6 ∗ Φ 7 ∗ Φ 8 ∗ Φ 9)
theorem bigSep_ten (Φ : Fin 10 → sProp 𝕄) : bigSep Finset.univ Φ = ten Φ := by
  rw [bigSep_univ_eq_bigSepL [(0 : Fin 10), 1, 2, 3, 4, 5, 6, 7, 8, 9] (by decide) (by decide), bigSepL_cons_cons, bigSepL_cons_cons, bigSepL_cons_cons, bigSepL_cons_cons,
    bigSepL_cons_cons, bigSepL_cons_cons, bigSepL_cons_cons, bigSepL_cons_cons, bigSepL_cons_cons, bigSepL_singleton]
  rfl
theorem bigSep_roles (Φ : Fin 10 × Fin 4 → sProp 𝕄) :
    bigSep Finset.univ Φ = bigSep Finset.univ fun j : Fin 4 => ten fun k => Φ (k, j) := by
  rw [bigSep_univ_prod, BI.bigSep_univ_comm]
  exact bigSep_congr fun j _ => bigSep_ten fun k => Φ (k, j)
theorem bigSep_three (Φ : Fin 3 → sProp 𝕄) : bigSep Finset.univ Φ = iprop(Φ 0 ∗ Φ 1 ∗ Φ 2) := by
  rw [bigSep_univ_eq_bigSepL [(0 : Fin 3), 1, 2] (by decide) (by decide), bigSepL_cons_cons, bigSepL_cons_cons, bigSepL_singleton]; rfl
/-- Over all the cells of a device. -/
theorem bigSep_cells (Φ : Cl → sProp 𝕄) : bigSep Finset.univ Φ
    = iprop(Φ bCl ∗ (Φ (lCl 0) ∗ Φ (lCl 1) ∗ Φ (lCl 2)) ∗ bigSep Finset.univ fun j : Fin 4 => ten fun k => Φ (rCl k j)) := by
  rw [bigSep_univ_sum, bigSep_univ_sum, bigSep_three, bigSep_roles, Fintype.univ_ofSubsingleton, bigSep_singleton]
  rfl

end Cert.KernelIdeal.Mm

end
-- ==== Proof.Ideal.BodyRun.lean ====
/- The whole body: what a device starts from, chunk by chunk, and what it ends with. -/
module

public import proofs.«01_k».proof.Proof.Ideal.Whole

@[expose] public section

noncomputable section

namespace Cert.KernelIdeal.Mm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAlg ℕ

/-! ## The tokens a device pays with -/

/-- The neighbour whose barrier a device signals for duty `d`; -/
def barPeer (d : Fin 3) (c : Dev nD) : Dev nD := match d with | 0 => xn c | 1 => yn c | 2 => zn c
/-- the device owning the semaphore of array `k` that a device's copies complete. -/
def peer (k : Fin 10) (c : Dev nD) : Dev nD :=
  match k with
  | 1 => yn c | 3 => xn c | 5 => zn c | 7 => zn c | 9 => xn c
  | 0 => c | 2 => c | 4 => c | 6 => c | 8 => c

/-- The duties a device pays: a unit per neighbour's barrier, the copy of `dy`'s rows, the copies of `W`'s chunks, and a
    duty of each array for each chunk. -/
abbrev Duty : Type := Fin 3 ⊕ (Unit ⊕ (Fin 4 ⊕ Fin 10 × Fin 4))
/-- Where; -/
def dutyTo (c : Dev nD) : Duty → Dev nD
  | .inl d => barPeer d c
  | .inr (.inl _) => c
  | .inr (.inr (.inl _)) => c
  | .inr (.inr (.inr kj)) => peer kj.1 c
/-- at which cell; -/
def dutyCl : Duty → Cl
  | .inl _ => bCl
  | .inr (.inl _) => lCl 2
  | .inr (.inr (.inl j)) => wCl j
  | .inr (.inr (.inr kj)) => rCl kj.1 kj.2
/-- of which round; -/
def dutyRd : Duty → ℕ
  | .inr (.inr (.inl j)) => j.val / 2
  | _ => 0
/-- under which name. -/
def dutyNm : Duty → Fin 3
  | .inl d => d
  | _ => 0
/-- All of a device's tokens. -/
def tokens (c : Dev nD) : sProp 𝕄 := bigSep Finset.univ fun t : Duty => tok (F := F) (dutyTo c t) (dutyCl t) (dutyRd t) (dutyNm t)

theorem tokens_eq (c : Dev nD) : tokens (F := F) c
    = iprop((tok (xn c) bCl 0 0 ∗ tok (yn c) bCl 0 1 ∗ tok (zn c) bCl 0 2) ∗ tok c (lCl 2) 0 0
      ∗ (tok c (lCl 0) 0 0 ∗ tok c (lCl 1) 0 0 ∗ tok c (lCl 0) 1 0 ∗ tok c (lCl 1) 1 0)
      ∗ bigSep Finset.univ fun j : Fin 4 => ten fun k => tok (F := F) (peer k c) (rCl k j) 0 0) := by
  unfold tokens
  rw [bigSep_univ_sum, bigSep_univ_sum, bigSep_univ_sum, bigSep_three, bigSep_roles, bigSep_four, Fintype.univ_ofSubsingleton, bigSep_singleton]
  rfl

/-- A device's rights to wait for what its neighbours send. -/
def credits (c : Dev nD) : sProp 𝕄 :=
  iprop(cred (tallyAt (cell c bCl) () 3)
    ∗ bigSep Finset.univ fun j : Fin 4 => iprop(crd (F := F) c (rCl 1 j) ∗ crd c (rCl 3 j) ∗ crd c (rCl 5 j) ∗ crd c (rCl 7 j) ∗ crd c (rCl 9 j)))
/-- Its positions: at the start, -/
def posStart (c : Dev nD) : sProp 𝕄 := bigSep Finset.univ fun x : Cl => pos (F := F) c x 0
/-- and after all rounds. -/
def posEnd (c : Dev nD) : sProp 𝕄 := bigSep Finset.univ fun x : Cl => pos (F := F) c x (rounds x)

theorem posEnd_eq (c : Dev nD) : posEnd (F := F) c
    = iprop(pos c bCl 1 ∗ (pos c (lCl 0) 2 ∗ pos c (lCl 1) 2 ∗ pos c (lCl 2) 1) ∗ bigSep Finset.univ fun j : Fin 4 => ten fun k => pos (F := F) c (rCl k j) 1) := by
  unfold posEnd; rw [bigSep_cells]; rfl

/-! ## A chunk's resources -/

/-- For the products; -/
def mulOwn (c : Dev nD) (j : Fin 4) : sProp 𝕄 := iprop(pAny (F := F) c j ∗ tok c (rCl 0 j) 0 0 ∗ tok (yn c) (rCl 1 j) 0 0)
/-- for the device's own tile; -/
def ownOwn (c : Dev nD) (j : Fin 4) : sProp 𝕄 :=
  iprop(pos (F := F) c (rCl 0 j) 0 ∗ pos c (rCl 1 j) 0 ∗ crd c (rCl 1 j) ∗ oAny c (tileS c j) ∗ tok c (rCl 2 j) 0 0 ∗ tok (xn c) (rCl 3 j) 0 0 ∗ tok c (rCl 4 j) 0 0 ∗ tok (zn c) (rCl 5 j) 0 0)
/-- for the tile along `x`; -/
def xOwn (c : Dev nD) (j : Fin 4) : sProp 𝕄 :=
  iprop(pos (F := F) c (rCl 2 j) 0 ∗ pos c (rCl 3 j) 0 ∗ crd c (rCl 3 j) ∗ tok c (rCl 6 j) 0 0 ∗ tok (zn c) (rCl 7 j) 0 0)
/-- for the tile along `z`; -/
def zOwn (c : Dev nD) (j : Fin 4) : sProp 𝕄 :=
  iprop(pos (F := F) c (rCl 4 j) 0 ∗ pos c (rCl 5 j) 0 ∗ crd c (rCl 5 j) ∗ tok c (rCl 8 j) 0 0 ∗ tok (xn c) (rCl 9 j) 0 0)
/-- for the half tiles. -/
def endOwn (c : Dev nD) (j : Fin 4) : sProp 𝕄 :=
  iprop(pos (F := F) c (rCl 6 j) 0 ∗ pos c (rCl 7 j) 0 ∗ crd c (rCl 7 j) ∗ pos c (rCl 8 j) 0 ∗ pos c (rCl 9 j) 0 ∗ crd c (rCl 9 j))
/-- All of a chunk's, as dealt. -/
def chunk (c : Dev nD) (j : Fin 4) : sProp 𝕄 :=
  iprop((ten fun k => pos (F := F) c (rCl k j) 0) ∗ (crd (F := F) c (rCl 1 j) ∗ crd c (rCl 3 j) ∗ crd c (rCl 5 j) ∗ crd c (rCl 7 j) ∗ crd c (rCl 9 j))
    ∗ (ten fun k => tok (F := F) (peer k c) (rCl k j) 0 0) ∗ oAny c (tileS c j) ∗ pAny c j)

theorem chunk_deal (c : Dev nD) (j : Fin 4) : chunk (F := F) c j ⊢ iprop(mulOwn (F := F) c j ∗ ownOwn (F := F) c j ∗ xOwn (F := F) c j ∗ zOwn (F := F) c j ∗ endOwn (F := F) c j) := by
  unfold chunk mulOwn ownOwn xOwn zOwn endOwn ten
  iintro ⟨⟨P0, P1, P2, P3, P4, P5, P6, P7, P8, P9⟩, ⟨C1, C3, C5, C7, C9⟩, ⟨T0, T1, T2, T3, T4, T5, T6, T7, T8, T9⟩, Ho, Hp⟩
  isplitl [Hp T0 T1]
  · isplitl [Hp]; · iexact Hp
    isplitl [T0]; · iexact T0
    iexact T1
  isplitl [P0 P1 C1 Ho T2 T3 T4 T5]
  · isplitl [P0]; · iexact P0
    isplitl [P1]; · iexact P1
    isplitl [C1]; · iexact C1
    isplitl [Ho]; · iexact Ho
    isplitl [T2]; · iexact T2
    isplitl [T3]; · iexact T3
    isplitl [T4]; · iexact T4
    iexact T5
  isplitl [P2 P3 C3 T6 T7]
  · isplitl [P2]; · iexact P2
    isplitl [P3]; · iexact P3
    isplitl [C3]; · iexact C3
    isplitl [T6]; · iexact T6
    iexact T7
  isplitl [P4 P5 C5 T8 T9]
  · isplitl [P4]; · iexact P4
    isplitl [P5]; · iexact P5
    isplitl [C5]; · iexact C5
    isplitl [T8]; · iexact T8
    iexact T9
  isplitl [P6]; · iexact P6
  isplitl [P7]; · iexact P7
  isplitl [C7]; · iexact C7
  isplitl [P8]; · iexact P8
  isplitl [P9]; · iexact P9
  iexact C9

section
variable (m : (ℓ : Loc nD τ sig) → Buf (Elt F) ℓ) (K : Dev nD × Cl → ℕ)

/-- The chunk's parts as the steps leave them: -/
def ownLeft (c : Dev nD) (j : Fin 4) : sProp 𝕄 := iprop(pos (F := F) c (rCl 0 j) 1 ∗ pos c (rCl 1 j) 1 ∗ pAny c j ∗ rAny c j)
def xLeft (c : Dev nD) (j : Fin 4) : sProp 𝕄 :=
  iprop(pos (F := F) c (rCl 2 j) 1 ∗ pos c (rCl 3 j) 1 ∗ oPts m c (tileS c j) fullShare.left ∗ oPts m c (tileS (xn c) j \ zbS c j) fullShare)
def zLeft (c : Dev nD) (j : Fin 4) : sProp 𝕄 :=
  iprop(pos (F := F) c (rCl 4 j) 1 ∗ pos c (rCl 5 j) 1 ∗ oPts m c (tileS c j) fullShare.right ∗ oPts m c (tileS (zn c) j \ xbS c j) fullShare)
/-- a chunk's in all. -/
def chunkEnd (c : Dev nD) (j : Fin 4) : sProp 𝕄 :=
  iprop((ten fun k => pos (F := F) c (rCl k j) 1) ∗ (pAny (F := F) c j ∗ rAny c j) ∗ five c (fun S => oPts m c S fullShare) j)

theorem chunk_end (c : Dev nD) (j : Fin 4) : iprop(ownLeft (F := F) c j ∗ xLeft m c j ∗ zLeft m c j ∗ endOut m c j) ⊢ chunkEnd m c j := by
  unfold ownLeft xLeft zLeft endOut chunkEnd ten five
  iintro ⟨⟨P0, P1, Hp, Hr⟩, ⟨P2, P3, Hl, Hx⟩, ⟨P4, P5, Hh, Hz⟩, ⟨P6, P7, P8, P9⟩, H1, H2, H3, H4⟩
  ihave Hown := (oPts_whole m c (tileS c j)) $$ [Hl Hh]
  · isplitl [Hl] <;> iassumption
  ihave Hx := (oPts_join m c fullShare (zbS_subset c j)) $$ [H1 Hx]
  · isplitl [H1] <;> iassumption
  ihave Hz := (oPts_join m c fullShare (xbS_subset c j)) $$ [H3 Hz]
  · isplitl [H3] <;> iassumption
  isplitl [P0 P1 P2 P3 P4 P5 P6 P7 P8 P9]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    iexact P9
  isplitl [Hp Hr]; · isplitl [Hp] <;> iassumption
  isplitl [Hown]; · iexact Hown
  isplitl [Hx]; · iexact Hx
  isplitl [Hz]; · iexact Hz
  isplitl [H2]; · iexact H2
  iexact H4

/-! ## The body -/

/-- The argument arrays, as launched. -/
def args (c : Dev nD) : sProp 𝕄 :=
  iprop((((c : Thread nD τ).loc main_arg0) ↦{fullShare} (dyA m c)) ∗ (((c : Thread nD τ).loc main_arg1) ↦{fullShare} (wA m c)))
/-- The buffers of the kernel's own, with any contents. -/
def scratch (c : Dev nD) : sProp 𝕄 := iprop(anyBuf (F := F) c cc0_scratch0 ∗ anyBuf c cc0_scratch1 ∗ anyBuf c cc0_scratch2 ∗ anyBuf c cc0_scratch3)
/-- What a device's body starts from, beside what it owes; -/
def before (c : Dev nD) : sProp 𝕄 := iprop((posStart (F := F) c ∗ credits c ∗ tokens c) ∗ args m c ∗ scratch c ∗ anyBuf c cc0_stg0_0)
/-- and ends with. -/
def after (c : Dev nD) : sProp 𝕄 :=
  iprop(posEnd (F := F) c ∗ args m c ∗ scratch c ∗ (((c : Thread nD τ).loc cc0_stg0_0) ↦{fullShare} (outAt m c)))

set_option maxHeartbeats 1600000 in
theorem run_stages (c : Dev nD) :
    iprop(env m K ∗ owesN c 0 ∗ before m c) ⊢ runs c (stages c) iprop(owesN c 23 ∗ after m c) := by
  have hstart : iprop(env m K ∗ wSrc m c 0 ∗ wAny c 0 ∗ tok c (lCl 0) 0 0 ∗ reached ER (cell c (lCl 0)) 0) ⊢ runs c (startW 0) (crd c (lCl 0)) := run_startW m K c 0
  have h1 := run_four m K c (stepOwn c) (ownIn c) (ownOut c) (fun n => owesN c (7 + 2 * n)) fun j => run_stepOwn m K c j
  have h2 := run_four m K c (stepX c) (xIn c) (xOut m c) (fun n => owesN c (15 + n)) fun j => run_stepX m K c j
  have h3 := run_four m K c (stepZ c) (zIn c) (zOut m c) (fun n => owesN c (19 + n)) fun j => run_stepZ m K c j
  have h4 := run_four m K c (stepEnd c) (endIn c) (endOut m c) (fun _ => owesN c 23) fun j => run_stepEnd m K c j
  have hchunk : iprop((bigSep Finset.univ fun j : Fin 4 => ten fun k => pos (F := F) c (rCl k j) 0)
        ∗ (bigSep Finset.univ fun j : Fin 4 => iprop(crd (F := F) c (rCl 1 j) ∗ crd c (rCl 3 j) ∗ crd c (rCl 5 j) ∗ crd c (rCl 7 j) ∗ crd c (rCl 9 j)))
        ∗ (bigSep Finset.univ fun j : Fin 4 => ten fun k => tok (F := F) (peer k c) (rCl k j) 0 0)
        ∗ (bigSep Finset.univ fun j : Fin 4 => oAny (F := F) c (tileS c j)) ∗ (bigSep Finset.univ fun j : Fin 4 => pAny (F := F) c j))
      ⊢ iprop((bigSep Finset.univ fun j : Fin 4 => mulOwn (F := F) c j) ∗ (bigSep Finset.univ fun j : Fin 4 => ownOwn (F := F) c j)
        ∗ (bigSep Finset.univ fun j : Fin 4 => xOwn (F := F) c j) ∗ (bigSep Finset.univ fun j : Fin 4 => zOwn (F := F) c j) ∗ bigSep Finset.univ fun j : Fin 4 => endOwn (F := F) c j) := by
    rw [← bigSep_sep', ← bigSep_sep', ← bigSep_sep', ← bigSep_sep', ← bigSep_sep', ← bigSep_sep', ← bigSep_sep', ← bigSep_sep']
    exact bigSep_mono fun j _ => chunk_deal c j
  have hmul : iprop((bigSep Finset.univ fun j : Fin 4 => mulOwn (F := F) c j) ∗ giveY c) ⊢ bigSep Finset.univ (fun j : Fin 4 => mulIn (F := F) c j) := by
    unfold giveY
    refine zip fun j => ?_
    unfold mulOwn mulIn
    iintro ⟨⟨Hp, T0, T1⟩, Hr⟩
    isplitl [Hp]; · iexact Hp
    isplitl [Hr]; · iexact Hr
    isplitl [T0] <;> iassumption
  have hX : giveX (F := F) c ⊢ iprop((bigSep Finset.univ fun j : Fin 4 => oAny (F := F) (xn c) (tileS c j)) ∗ bigSep Finset.univ fun j : Fin 4 => oAny (F := F) (xn c) (xbS c j)) := by
    unfold giveX; rw [bigSep_sep']
  have hZ : giveZ (F := F) c ⊢ iprop((bigSep Finset.univ fun j : Fin 4 => oAny (F := F) (zn c) (tileS c j)) ∗ bigSep Finset.univ fun j : Fin 4 => oAny (F := F) (zn c) (zbS c j)) := by
    unfold giveZ; rw [bigSep_sep']
  have hown : iprop((bigSep Finset.univ fun j : Fin 4 => ownOwn (F := F) c j) ∗ (bigSep Finset.univ fun j : Fin 4 => crd (F := F) c (rCl 0 j))
        ∗ (bigSep Finset.univ fun j : Fin 4 => oAny (F := F) (xn c) (tileS c j)) ∗ (bigSep Finset.univ fun j : Fin 4 => oAny (F := F) (zn c) (tileS c j)))
      ⊢ bigSep Finset.univ (ownIn (F := F) c) := by
    rw [← bigSep_sep', ← bigSep_sep', ← bigSep_sep']; exact Entails.of_eq rfl
  have hownO : bigSep Finset.univ (ownOut (F := F) c) ⊢ iprop((bigSep Finset.univ fun j : Fin 4 => ownLeft (F := F) c j)
        ∗ (bigSep Finset.univ fun j : Fin 4 => crd (F := F) c (rCl 2 j)) ∗ bigSep Finset.univ fun j : Fin 4 => crd (F := F) c (rCl 4 j)) := by
    rw [← bigSep_sep', ← bigSep_sep']; exact Entails.of_eq rfl
  have hx : iprop((bigSep Finset.univ fun j : Fin 4 => xOwn (F := F) c j) ∗ (bigSep Finset.univ fun j : Fin 4 => crd (F := F) c (rCl 2 j))
        ∗ bigSep Finset.univ fun j : Fin 4 => oAny (F := F) (zn c) (zbS c j)) ⊢ bigSep Finset.univ (xIn (F := F) c) := by
    rw [← bigSep_sep', ← bigSep_sep']; exact Entails.of_eq rfl
  have hxO : bigSep Finset.univ (xOut m c) ⊢ iprop((bigSep Finset.univ fun j : Fin 4 => xLeft m c j) ∗ bigSep Finset.univ fun j : Fin 4 => crd (F := F) c (rCl 6 j)) := by
    rw [← bigSep_sep']; exact Entails.of_eq rfl
  have hz : iprop((bigSep Finset.univ fun j : Fin 4 => zOwn (F := F) c j) ∗ (bigSep Finset.univ fun j : Fin 4 => crd (F := F) c (rCl 4 j))
        ∗ bigSep Finset.univ fun j : Fin 4 => oAny (F := F) (xn c) (xbS c j)) ⊢ bigSep Finset.univ (zIn (F := F) c) := by
    rw [← bigSep_sep', ← bigSep_sep']; exact Entails.of_eq rfl
  have hzO : bigSep Finset.univ (zOut m c) ⊢ iprop((bigSep Finset.univ fun j : Fin 4 => zLeft m c j) ∗ bigSep Finset.univ fun j : Fin 4 => crd (F := F) c (rCl 8 j)) := by
    rw [← bigSep_sep']; exact Entails.of_eq rfl
  have he : iprop((bigSep Finset.univ fun j : Fin 4 => endOwn (F := F) c j) ∗ (bigSep Finset.univ fun j : Fin 4 => crd (F := F) c (rCl 6 j))
        ∗ bigSep Finset.univ fun j : Fin 4 => crd (F := F) c (rCl 8 j)) ⊢ bigSep Finset.univ (endIn (F := F) c) := by
    rw [← bigSep_sep', ← bigSep_sep']; exact Entails.of_eq rfl
  have hend : iprop((bigSep Finset.univ fun j : Fin 4 => ownLeft (F := F) c j) ∗ (bigSep Finset.univ fun j : Fin 4 => xLeft m c j)
        ∗ (bigSep Finset.univ fun j : Fin 4 => zLeft m c j) ∗ bigSep Finset.univ (endOut m c))
      ⊢ iprop((bigSep Finset.univ fun j : Fin 4 => ten fun k => pos (F := F) c (rCl k j) 1)
        ∗ ((bigSep Finset.univ fun j : Fin 4 => pAny (F := F) c j) ∗ bigSep Finset.univ fun j : Fin 4 => rAny (F := F) c j)
        ∗ bigSep Finset.univ fun j : Fin 4 => five c (fun S => oPts m c S fullShare) j) := by
    rw [← bigSep_sep', ← bigSep_sep', ← bigSep_sep', ← bigSep_sep', ← bigSep_sep', ← bigSep_sep']
    exact bigSep_mono fun j _ => chunk_end m c j
  unfold before args scratch credits posStart
  rw [tokens_eq, bigSep_cells (fun x => pos (F := F) c x 0)]
  iintro ⟨#HE, HO, ⟨⟨Pb, ⟨P0, P1, P2⟩, Pr⟩, ⟨Cb, Cr⟩, ⟨Tx, Ty, Tz⟩, Td, ⟨Tw0, Tw1, Tw2, Tw3⟩, Tr⟩, ⟨Hdy, Hw⟩, ⟨S0, S1, S2, S3⟩, Hout⟩
  ihave Hdy := (cut_dy m c) $$ Hdy
  icases Hdy with ⟨Hdy, Hdr⟩
  ihave Hw := (Entails.of_eq ((cut_w m c).trans (bigSep_four fun j => wSrc m c j))) $$ Hw
  icases Hw with ⟨W0, W1, W2, W3⟩
  ihave S1 := (cut_v c) $$ S1
  icases S1 with ⟨V0, V1⟩
  ihave S2 := (cut_p c) $$ S2
  ihave S3 := ((cut_r c).trans (give_y c)) $$ S3
  ihave Hout := ((cut_o c).trans (give_all c)) $$ Hout
  icases Hout with ⟨Hot, Hgx, Hgz⟩
  ihave Hch := hchunk $$ [Pr Cr Tr Hot S2]
  · isplitl [Pr]; · iexact Pr
    isplitl [Cr]; · iexact Cr
    isplitl [Tr]; · iexact Tr
    isplitl [Hot] <;> iassumption
  icases Hch with ⟨Hmul, Hown, Hxs, Hzs, Hes⟩
  ihave #HR0 := (env_reached m K c (lCl 0)) $$ HE
  unfold stages
  iapply (step (run_startDy m K c)) $$ [Hdy S0 Td]
  · isplitr; · iexact HE
    isplitl [Hdy]; · iexact Hdy
    isplitl [S0] <;> iassumption
  iintro Cd
  iapply (step hstart) $$ [W0 V0 Tw0]
  · isplitr; · iexact HE
    isplitl [W0]; · iexact W0
    isplitl [V0]; · iexact V0
    isplitl [Tw0]; · iexact Tw0
    iexact HR0
  iintro C0
  iapply (step (run_barrier m K c)) $$ [HO Cb Pb Tx Ty Tz Hgx S3 Hgz]
  · isplitr; · iexact HE
    isplitl [HO]; · iexact HO
    isplitl [Cb]; · iexact Cb
    isplitl [Pb]; · iexact Pb
    isplitl [Tx]; · iexact Tx
    isplitl [Ty]; · iexact Ty
    isplitl [Tz]; · iexact Tz
    isplitl [Hgx]; · iexact Hgx
    isplitl [S3] <;> iassumption
  iintro ⟨HO, Pb, Gx, Gy, Gz⟩
  ihave Hmul := hmul $$ [Hmul Gy]
  · isplitl [Hmul] <;> iassumption
  iapply (step (run_stageMul m K c)) $$ [HO Cd P2 C0 P0 P1 V1 W1 W2 W3 Tw1 Tw2 Tw3 Hmul]
  · isplitr; · iexact HE
    isplitl [HO]; · iexact HO
    isplitr [Hmul]
    · unfold mulPre
      isplitl [Cd]; · iexact Cd
      isplitl [P2]; · iexact P2
      isplitl [C0]; · iexact C0
      isplitl [P0]; · iexact P0
      isplitl [P1]; · iexact P1
      isplitl [V1]; · iexact V1
      isplitl [W1 W2 W3]
      · isplitl [W1]; · iexact W1
        isplitl [W2] <;> iassumption
      isplitl [Tw1]; · iexact Tw1
      isplitl [Tw2] <;> iassumption
    iexact Hmul
  unfold mulPost
  iintro ⟨HO, ⟨P0, P1, P2, S0, Hdy, ⟨V0, V1⟩, Hw⟩, C0⟩
  ihave Gx := hX $$ Gx
  icases Gx with ⟨Gx, Gxb⟩
  ihave Gz := hZ $$ Gz
  icases Gz with ⟨Gz, Gzb⟩
  ihave Hown := hown $$ [Hown C0 Gx Gz]
  · isplitl [Hown]; · iexact Hown
    isplitl [C0]; · iexact C0
    isplitl [Gx] <;> iassumption
  iapply (step h1) $$ [Hown HO]
  · isplitr; · iexact HE
    isplitl [Hown] <;> iassumption
  iintro ⟨Hown, HO⟩
  ihave Hown := hownO $$ Hown
  icases Hown with ⟨Hown, C2, C4⟩
  ihave Hxs := hx $$ [Hxs C2 Gzb]
  · isplitl [Hxs]; · iexact Hxs
    isplitl [C2] <;> iassumption
  iapply (step h2) $$ [Hxs HO]
  · isplitr; · iexact HE
    isplitl [Hxs] <;> iassumption
  iintro ⟨Hxs, HO⟩
  ihave Hxs := hxO $$ Hxs
  icases Hxs with ⟨Hxs, C6⟩
  ihave Hzs := hz $$ [Hzs C4 Gxb]
  · isplitl [Hzs]; · iexact Hzs
    isplitl [C4] <;> iassumption
  iapply (step h3) $$ [Hzs HO]
  · isplitr; · iexact HE
    isplitl [Hzs] <;> iassumption
  iintro ⟨Hzs, HO⟩
  ihave Hzs := hzO $$ Hzs
  icases Hzs with ⟨Hzs, C8⟩
  ihave Hes := he $$ [Hes C6 C8]
  · isplitl [Hes]; · iexact Hes
    isplitl [C6] <;> iassumption
  iapply (last h4) $$ [Hes HO]
  · isplitr; · iexact HE
    isplitl [Hes] <;> iassumption
  iintro ⟨Hes, HO⟩
  ihave Hend := hend $$ [Hown Hxs Hzs Hes]
  · isplitl [Hown]; · iexact Hown
    isplitl [Hxs]; · iexact Hxs
    isplitl [Hzs] <;> iassumption
  icases Hend with ⟨Pr, ⟨S2, S3⟩, Hout⟩
  ihave S2 := (join_p c) $$ S2
  ihave S3 := (join_r c) $$ S3
  ihave Hout := (join_o m c) $$ Hout
  ihave S1 := (join_v c) $$ [V0 V1]
  · isplitl [V0] <;> iassumption
  ihave Hw := (Entails.of_eq (cut_w m c).symm) $$ Hw
  ihave Hdy := (join_dy m c) $$ [Hdy Hdr]
  · isplitl [Hdy] <;> iassumption
  isplitl [HO]; · iexact HO
  unfold after args scratch
  rw [posEnd_eq]
  isplitl [Pb P0 P1 P2 Pr]
  · isplitl [Pb]; · iexact Pb
    isplitl [P0 P1 P2]
    · isplitl [P0]; · iexact P0
      isplitl [P1] <;> iassumption
    iexact Pr
  isplitl [Hdy Hw]; · isplitl [Hdy] <;> iassumption
  isplitl [S0 S1 S2 S3]
  · isplitl [S0]; · unfold dyOwn; iexists (dyBlk m c); iexact S0
    isplitl [S1]; · iexact S1
    isplitl [S2] <;> iassumption
  iexact Hout

/-! ## The end -/

/-- All rounds over, every semaphore of the device reads zero. -/
theorem close_all (c : Dev nD) : iprop(env m K ∗ posEnd (F := F) c) ⊢ |={Set.univ}=> bigSep Finset.univ fun x : Cl => (semVal (cell c x) 0 : sProp 𝕄) :=
  (bigSep_with_persistent fun x _ => close_cell m K c x).trans (bigSep_fupd _ _)

end

end Cert.KernelIdeal.Mm

end
-- ==== Proof.Ideal.Deal.lean ====
/- The launch's set-up: the cells and tokens as minted, the invariants made, the tokens dealt to the devices that pay the
   duties, and the rights to wait that the debts at launch give. -/
module

public import proofs.«01_k».proof.Proof.Ideal.BodyRun

@[expose] public section

noncomputable section

namespace Cert.KernelIdeal.Mm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UAlg ℕ

section
variable (m : (ℓ : Loc nD τ sig) → Buf (Elt F) ℓ) (K : Dev nD × Cl → ℕ)

/-! ## Cells and tokens as minted -/

abbrev cellAt (p : Dev nD × Cl) : GSem nD τ sig := cell p.1 p.2
theorem cellAt_injective : Function.Injective cellAt := fun p p' h => by
  obtain ⟨c, x⟩ := p; obtain ⟨c', x'⟩ := p'
  obtain ⟨h1, h2⟩ := cell_injective h
  exact Prod.ext h1 h2
def allCells : Finset (GSem nD τ sig) := Finset.univ.map ⟨cellAt, cellAt_injective⟩

/-- A duty's token, at the cell of device `p.1`. -/
abbrev tokAt (p : Dev nD × Duty) : GSem nD τ sig × ℕ × Fin 3 := (cell p.1 (dutyCl p.2), dutyRd p.2, dutyNm p.2)
/-- The duty read off its token. -/
def dutyOf : Cl → ℕ → Fin 3 → Duty
  | .inl _, _, d => .inl d
  | .inr (.inl s), r, _ => if s = 2 then .inr (.inl ()) else .inr (.inr (.inl ⟨(2 * r + s.val) % 4, Nat.mod_lt _ (by decide)⟩))
  | .inr (.inr kj), _, _ => .inr (.inr (.inr kj))
theorem dutyOf_duty (t : Duty) : dutyOf (dutyCl t) (dutyRd t) (dutyNm t) = t := by
  rcases t with d | _ | j | kj
  · rfl
  · rfl
  · revert j; decide
  · rfl
theorem tokAt_injective : Function.Injective tokAt := fun p p' h => by
  obtain ⟨c, t⟩ := p; obtain ⟨c', t'⟩ := p'
  obtain ⟨h1, h2⟩ := Prod.mk.inj h
  obtain ⟨h2, h3⟩ := Prod.mk.inj h2
  obtain ⟨h4, h5⟩ := cell_injective h1
  refine Prod.ext h4 ?_
  show t = t'
  rw [← dutyOf_duty t, ← dutyOf_duty t']
  exact congr (congr (congrArg dutyOf h5) h2) h3
def allToks : Finset (GSem nD τ sig × ℕ × Fin 3) := Finset.univ.map ⟨tokAt, tokAt_injective⟩

def u₀ : UAlg := (initOf (Pipeline.cells cfgs cellOf_inj) (Pipeline.launchToks cfgs cellOf_inj), initOf allCells allToks)

/-- The tokens of a device's own cells. -/
def minted (c : Dev nD) : sProp 𝕄 := bigSep Finset.univ fun t : Duty => tok (F := F) c (dutyCl t) (dutyRd t) (dutyNm t)
/-- What a device is given at launch. -/
def given (c : Dev nD) : sProp 𝕄 :=
  iprop((bigSep Finset.univ fun x : Cl => roundState ER (sched m) (cell c x) 0) ∗ posStart (F := F) c
    ∗ (bigSep Finset.univ fun x : Cl => reached ER (cell c x) 0) ∗ minted (F := F) c)

theorem fund_all : BI.own (ER (initOf allCells allToks)) ⊢ (|==> bigSep Finset.univ (given m) : sProp 𝕄) := by
  have hX (Φ : GSem nD τ sig → sProp 𝕄) : bigSep allCells Φ = bigSep Finset.univ fun c : Dev nD => bigSep Finset.univ fun x : Cl => Φ (cell c x) := by
    unfold allCells; rw [bigSep_map, bigSep_univ_prod]; rfl
  have hT : bigSep allToks (fun x => (dutyTok ER x.1 x.2.1 x.2.2 : sProp 𝕄)) = bigSep Finset.univ fun c : Dev nD => minted (F := F) c := by
    unfold allToks; rw [bigSep_map, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold given posStart; simp only [bigSep_sep']
  isplitl [Hst]; · iexact Hst
  isplitl [Hat]; · iexact Hat
  isplitl [Hr]; · iexact Hr
  iexact Htok

/-! ## The invariants -/

theorem unscopedSems0_eq (c : Dev nD) : (unscopedSems0 c : sProp 𝕄) = semVal (cell c bCl) 0 := by
  unfold unscopedSems0; rw [bigSep_eq_bigSepL_of_eq [SemLoc.reg barS] (by decide) (by decide)]; rfl

/-- All the cells of a device: the kernel's own semaphores and the barrier's. -/
theorem sems_eq (c : Dev nD) : (bigSep Finset.univ fun x : Cl => (semVal (cell c x) 0 : sProp 𝕄))
    = iprop(unscopedSems0 c ∗ Pipeline.ownSems0 osem c) := by
  rw [unscopedSems0_eq, bigSep_univ_sum, Fintype.univ_ofSubsingleton, bigSep_singleton]
  rfl

/-- The invariant of a cell, under some name. -/
abbrev someInv (c : Dev nD) (x : Cl) : sProp 𝕄 := iprop(∃ κ : ℕ, cellInv ER (sched m) κ (cell c x))

theorem make_invs (c : Dev nD) :
    iprop(Pipeline.ownSems0 osem c ∗ unscopedSems0 c ∗ given m c)
      ⊢ |={Set.univ}=> iprop((bigSep Finset.univ fun x : Cl => someInv m c x) ∗ posStart (F := F) c ∗ (bigSep Finset.univ fun x : Cl => reached ER (cell c x) 0) ∗ minted (F := F) c) := by
  have h : iprop((bigSep Finset.univ fun x : Cl => (semVal (cell c x) 0 : sProp 𝕄)) ∗ bigSep Finset.univ fun x : Cl => roundState ER (sched m) (cell c x) 0)
      ⊢ |={Set.univ}=> bigSep Finset.univ fun x : Cl => someInv m c x := by
    rw [← bigSep_sep']
    exact (bigSep_mono fun x _ => (Rounds.body_intro ER (sched m) (cell c x)).trans inv_alloc).trans (bigSep_fupd _ _)
  rw [sems_eq] at h
  unfold given
  iintro ⟨Hos, Hus, Hst, Hrest⟩
  imod h $$ [Hos Hus Hst] with Hinv
  · isplitr [Hst]
    · isplitl [Hus] <;> iassumption
    iexact Hst
  imodintro
  isplitl [Hinv] <;> iassumption

/-! ## The tokens dealt -/

theorem barPeer_twice (d : Fin 3) (c : Dev nD) : barPeer d (barPeer d c) = c := by
  fin_cases d
  · exact xn_xn c
  · exact yn_yn c
  · exact zn_zn c
theorem peer_twice (k : Fin 10) (c : Dev nD) : peer k (peer k c) = c := by
  fin_cases k <;> first | rfl | exact xn_xn c | exact yn_yn c | exact zn_zn c
theorem dutyTo_twice (t : Duty) (c : Dev nD) : dutyTo (dutyTo c t) t = c := by
  rcases t with d | _ | j | kj
  · exact barPeer_twice d c
  · rfl
  · rfl
  · exact peer_twice kj.1 c

theorem deal : (bigSep Finset.univ fun c : Dev nD => minted (F := F) c) = bigSep Finset.univ fun c : Dev nD => tokens (F := F) c := by
  unfold minted tokens
  rw [BI.bigSep_univ_comm, BI.bigSep_univ_comm (fun (c : Dev nD) (t : Duty) => tok (F := F) (dutyTo c t) (dutyCl t) (dutyRd t) (dutyNm t))]
  exact bigSep_congr fun t _ => bigSep_univ_equiv (Function.Involutive.toPerm (fun c : Dev nD => dutyTo c t) (dutyTo_twice t))
    (fun c : Dev nD => tok (F := F) c (dutyCl t) (dutyRd t) (dutyNm t))

/-- What every device knows of the cells, without the levels. -/
def records : sProp 𝕄 := iprop((bigSep Finset.univ fun p : Dev nD × Cl => cellInv ER (sched m) (K p) (cell p.1 p.2))
  ∗ bigSep Finset.univ fun p : Dev nD × Cl => reached ER (cell p.1 p.2) 0)
instance records_persistent : BI.Persistent (records m K) := by unfold records; infer_instance

/-- What a device has after the set-up. -/
def dealt (c : Dev nD) : sProp 𝕄 := iprop(∃ K, records m K ∗ posStart (F := F) c ∗ tokens c)

theorem regroup : (bigSep Finset.univ fun c : Dev nD => iprop((bigSep Finset.univ fun x : Cl => someInv m c x) ∗ posStart (F := F) c
      ∗ (bigSep Finset.univ fun x : Cl => reached ER (cell c x) 0) ∗ minted (F := F) c) : sProp 𝕄)
    ⊢ bigSep Finset.univ (dealt m) := by
  rw [bigSep_sep', bigSep_sep', bigSep_sep', deal, ← bigSep_univ_prod (fun p : Dev nD × Cl => someInv m p.1 p.2), ← bigSep_univ_prod (fun p : Dev nD × Cl => (reached ER (cell p.1 p.2) 0 : sProp 𝕄))]
  iintro ⟨HI, Hpos, #HR, Htok⟩
  ihave HK := (BI.bigSep_exists_pi Finset.univ (fun (p : Dev nD × Cl) (κ : ℕ) => (cellInv ER (sched m) κ (cell p.1 p.2) : sProp 𝕄))) $$ HI
  icases HK with ⟨%K, #HI⟩
  have h (c : Dev nD) (_ : c ∈ (Finset.univ : Finset (Dev nD))) : iprop(records m K ∗ (posStart (F := F) c ∗ tokens c)) ⊢ dealt m c := by
    unfold dealt; iintro H; iexists K; iexact H
  have h' := bigSep_with_persistent (R := records m K) h
  rw [bigSep_sep'] at h'
  iapply h'
  isplitr
  · unfold records; isplitl; · iexact HI
    iexact HR
  isplitl [Hpos] <;> iassumption

theorem set_up : (bigSep Finset.univ fun c => iprop(Pipeline.ownSems0 osem c ∗ unscopedSems0 c ∗ given m c) : sProp 𝕄)
    ⊢ |={Set.univ}=> bigSep Finset.univ (dealt m) :=
  ((bigSep_mono fun c _ => make_invs m c).trans (bigSep_fupd _ _)).trans (BI.fupd_mono (regroup m))

/-! ## The rights to wait -/

/-- Each payment goes along one axis. -/
theorem payTo_axis (n : ℕ) : (∀ c, payTo c n = xn c) ∨ (∀ c, payTo c n = yn c) ∨ (∀ c, payTo c n = zn c) := by
  by_cases h0 : n = 0; · exact .inl fun c => if_pos h0
  by_cases h1 : n = 1; · exact .inr (.inl fun c => (if_neg h0).trans (if_pos h1))
  by_cases h2 : n = 2; · exact .inr (.inr fun c => (if_neg h0).trans ((if_neg h1).trans (if_pos h2)))
  by_cases h3 : n < 7; · exact .inr (.inl fun c => (if_neg h0).trans ((if_neg h1).trans ((if_neg h2).trans (if_pos h3))))
  have h (c : Dev nD) : payTo c n = _ := (if_neg h0).trans ((if_neg h1).trans ((if_neg h2).trans (if_neg h3)))
  by_cases h4 : n < 15
  · by_cases h5 : n % 2 = 1
    · exact .inl fun c => (h c).trans ((if_pos h4).trans (if_pos h5))
    · exact .inr (.inr fun c => (h c).trans ((if_pos h4).trans (if_neg h5)))
  by_cases h5 : n < 19
  · exact .inr (.inr fun c => (h c).trans ((if_neg h4).trans (if_pos h5)))
  · exact .inl fun c => (h c).trans ((if_neg h4).trans (if_neg h5))
theorem payTo_twice (n : ℕ) (c : Dev nD) : payTo (payTo c n) n = c := by
  rcases payTo_axis n with h | h | h
  · rw [h, h, xn_xn]
  · rw [h, h, yn_yn]
  · rw [h, h, zn_zn]

/-- How many payments a cell receives in all. -/
def paid (x : Cl) : ℕ := ∑ i ∈ Finset.Ico 0 23, if payAt i = x then 1 else 0
theorem paid_bar : paid bCl = 3 := by decide +kernel
theorem paid_odd : ∀ (k : Fin 10) (j : Fin 4), k.val % 2 = 1 → paid (rCl k j) = 1 := by decide +kernel

theorem debt_sum (c : Dev nD) (x : Cl) (i : ℕ) : ∑ d : Dev nD, debt d i (cell c x) () = (if payAt i = x then 1 else 0) * amt x := by
  unfold debt
  rw [Fintype.sum_eq_single (payTo c i)]
  · rw [payTo_twice, tallyAt_apply]
    by_cases h : payAt i = x
    · rw [if_pos h, ← h, if_pos ⟨rfl, rfl⟩, one_mul]
    · rw [if_neg h, if_neg (fun h' => h (cell_injective h'.1).2.symm), zero_mul]
  · intro d hd
    rw [tallyAt_apply, if_neg]
    rintro ⟨h', -⟩
    exact hd (by rw [(cell_injective h').1, payTo_twice])

theorem launch_cell (c : Dev nD) (x : Cl) :
    tallyOn (cell c x) (launchCredit (Pipeline.owing fun d => owed d 0) 0 (cell c x)) = (tallyAt (cell c x) () (paid x * amt x) : CellTallies nD τ sig Unit) := by
  unfold tallyAt; refine congrArg _ (Finsupp.ext fun u => ?_); cases u
  rw [Pipeline.launchCredit_owing, Finsupp.single_eq_same]
  have h (d : Dev nD) : owed d 0 (cell c x) () = ∑ i ∈ Finset.Ico 0 23, debt d i (cell c x) () := by
    unfold owed; rw [Finset.sum_apply, Finsupp.finset_sum_apply]
  unfold paid
  rw [Finset.sum_congr rfl fun d _ => h d, Finset.sum_comm, Finset.sum_mul]
  exact Finset.sum_congr rfl fun i _ => debt_sum c x i

theorem csem_injective : Function.Injective csem := fun x y h => by
  have := congrArg clOf h
  rwa [clOf_csem, clOf_csem, Option.some.injEq] at this

/-- The receivers' arrays of the ten. -/
theorem ten_odd (Φ : Fin 10 → sProp 𝕄) : ten Φ ⊢ iprop(Φ 1 ∗ Φ 3 ∗ Φ 5 ∗ Φ 7 ∗ Φ 9) := by
  iintro ⟨-, H1, -, H3, -, H5, -, H7, -, H9⟩
  isplitl [H1]; · iexact H1
  isplitl [H3]; · iexact H3
  isplitl [H5]; · iexact H5
  isplitl [H7] <;> iassumption

theorem launch_credits (c : Dev nD) : (Pipeline.launchCred (fun d => owed d 0) c : sProp 𝕄) ⊢ credits (F := F) c := by
  have h0 : (Pipeline.launchCred (fun d => owed d 0) c : sProp 𝕄) ⊢ bigSep Finset.univ fun x : Cl => cred (tallyAt (cell c x) () (paid x * amt x)) := by
    unfold Pipeline.launchCred
    have he : (bigSep (Finset.univ.map ⟨csem, csem_injective⟩) fun sm : SemLoc sig => (cred (tallyOn ((c : Thread nD τ), sm) (launchCredit (Pipeline.owing fun d => owed d 0) 0 ((c : Thread nD τ), sm))) : sProp 𝕄))
        = bigSep Finset.univ fun x : Cl => cred (tallyAt (cell c x) () (paid x * amt x)) := by
      rw [bigSep_map]
      exact bigSep_congr fun x _ => congrArg cred (launch_cell c x)
    rw [← he]
    exact BI.bigSep_subset (Finset.subset_univ _)
  have h1 (k : Fin 10) (j : Fin 4) (hk : k.val % 2 = 1) : (cred (tallyAt (cell c (rCl k j)) () (paid (rCl k j) * amt (rCl k j))) : sProp 𝕄) = crd c (rCl k j) := by
    rw [paid_odd k j hk, one_mul]
  have hb : (cred (tallyAt (cell c bCl) () (paid bCl * amt bCl)) : sProp 𝕄) = cred (tallyAt (cell c bCl) () 3) := by
    rw [paid_bar]; rfl
  refine h0.trans ?_
  rw [bigSep_cells]
  unfold credits
  have hr : (bigSep Finset.univ fun j : Fin 4 => ten fun k => (cred (tallyAt (cell c (rCl k j)) () (paid (rCl k j) * amt (rCl k j))) : sProp 𝕄))
      ⊢ bigSep Finset.univ fun j : Fin 4 => iprop(crd (F := F) c (rCl 1 j) ∗ crd c (rCl 3 j) ∗ crd c (rCl 5 j) ∗ crd c (rCl 7 j) ∗ crd c (rCl 9 j)) := by
    refine bigSep_mono fun j _ => (ten_odd _).trans (Entails.of_eq ?_)
    rw [h1 1 j rfl, h1 3 j rfl, h1 5 j rfl, h1 7 j rfl, h1 9 j rfl]
  rw [hb]
  iintro ⟨Hb, -, Hr⟩
  isplitl [Hb]; · iexact Hb
  iapply hr; iexact Hr

end

end Cert.KernelIdeal.Mm

end
-- ==== Proof.Ideal.Launch.lean ====
/- The launch: the proof data of the one grid point, the body's obligation, and the run of the whole program. -/
module

public import proofs.«01_k».proof.Proof.Ideal.Deal
public import Idealize.ShloMosaic.Lib.Pipeline.ValueKit
public import Idealize.ShloMosaic.Lib.Pipeline.CollectiveSegs

@[expose] public section

noncomputable section

namespace Cert.KernelIdeal.Mm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UAlg ℕ

section
variable (m : (ℓ : Loc nD τ sig) → Buf (Elt F) ℓ) (ρ : Dev nD → PrngReg)

/-- What a device has from the launch's set-up; -/
def opening (c : Dev nD) : sProp 𝕄 := iprop(dealt m c ∗ credits (F := F) c ∗ levAts L lv ∗ args m c)
/-- before the body, with the kernel's own buffers; -/
def inv₀ (c : Dev nD) : sProp 𝕄 := iprop(opening m c ∗ scratch (F := F) c)
/-- after it. -/
def inv₁ (c : Dev nD) : sProp 𝕄 := iprop((bigSep Finset.univ fun x : Cl => (semVal (cell c x) 0 : sProp 𝕄)) ∗ args m c ∗ scratch (F := F) c)

def dats (_ : Fin 1) (c : Dev nD) : Dat τ (Elt F) Unit ℕ UAlg ℕ cfg0 c where
  A w := (s₀ m ρ).mem ((cfg0.win w).arr.view.loc (c : Thread nD τ))
  after w _ := match w with
    | ⟨0, _⟩ => outAt m c
  Φ t := match t with
    | ⟨0, _⟩ => inv₀ m c
    | ⟨_ + 1, _⟩ => inv₁ m c
  q _ := fullShare
  owed t := match t with
    | ⟨0, _⟩ => owed c 0
    | ⟨_ + 1, _⟩ => owed c 23

theorem bigSep_W (Φ : Fin cfg0.W → sProp 𝕄) : bigSep Finset.univ Φ = Φ (0 : Fin 1) := bigSep_W0 Φ

theorem owns_whole_eq (c : Dev nD) (b : Ref sig .tc) (X : b.ty.Contents (Elt F)) :
    (owns (Ix := Unit) (Name := ℕ) (U := UAlg) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 8000 in
theorem run_body (c : Dev nD) :
    iprop(inv₀ m c ∗ (dats m ρ 0 c).owesAt () t0_0.castSucc ∗ (∃ d, held c cc0_stg0_0 ((dats m ρ 0 c).before (0 : Fin 1) t0_0 d)))
      ⊢ runs c (bodyAt0 t0_0) iprop(inv₁ m c ∗ (dats m ρ 0 c).owesAt () t0_0.succ ∗ held c cc0_stg0_0 (outAt m c)) := by
  unfold runs
  rw [body_eq]
  simp only [Prog.lift, Prog.bind_op, Prog.bind_ret, Prog.pure_eq_ret, wp_deviceId]
  have hrun (K : Dev nD × Cl → ℕ) : iprop(env m K ∗ owesN c 0 ∗ Mm.before m c) ⊢ wp frame (wpE (defs₀ (F := F)) 𝒱₀ (c : Thread nD τ) none) Set.univ (stages c) (fun _ => iprop(owesN c 23 ∗ Mm.after m c)) := run_stages m K c
  have hend (K : Dev nD × Cl → ℕ) : iprop(env m K ∗ owesN c 23 ∗ Mm.after m c) ⊢ |={Set.univ}=> iprop(inv₁ m c ∗ (dats m ρ 0 c).owesAt () t0_0.succ ∗ held c cc0_stg0_0 (outAt m c)) := by
    unfold Mm.after inv₁ owesN Dat.owesAt Pipeline.owesWithin
    iintro ⟨#HE, ⟨%W, HO⟩, Hp, Ha, Hs, Ho⟩
    imod (close_all m K c) $$ [Hp] with Hz
    · isplitr; · iexact HE
      iexact Hp
    imodintro
    isplitl [Hz Ha Hs]
    · isplitl [Hz]; · iexact Hz
      isplitl [Ha] <;> iassumption
    isplitl [HO]
    · iexists W
      isplitr; · ipureintro; exact fun _ _ => Or.inl trivial
      iexact HO
    iexists _; isplitr; · (ipureintro; rfl)
    iexact Ho
  have hall (K : Dev nD × Cl → ℕ) : iprop(env m K ∗ owesN c 0 ∗ Mm.before m c) ⊢ wp frame (wpE (defs₀ (F := F)) 𝒱₀ (c : Thread nD τ) none) Set.univ (stages c)
      (fun _ => iprop(inv₁ m c ∗ (dats m ρ 0 c).owesAt () t0_0.succ ∗ held c cc0_stg0_0 (outAt m c))) := by
    iintro ⟨#HE, HO, Hb⟩
    iapply (wp_fupd _ _ _)
    have hm : iprop(env m K ∗ wp frame (wpE (defs₀ (F := F)) 𝒱₀ (c : Thread nD τ) none) Set.univ (stages c) (fun _ => iprop(owesN c 23 ∗ Mm.after m c)))
        ⊢ wp frame (wpE (defs₀ (F := F)) 𝒱₀ (c : Thread nD τ) none) Set.univ (stages c) (fun _ => iprop(|={Set.univ}=> iprop(inv₁ m c ∗ (dats m ρ 0 c).owesAt () t0_0.succ ∗ held c cc0_stg0_0 (outAt m c)))) :=
      (wp_frame_l _ _ _).trans (wp_mono _ _ _ fun _ => hend K)
    iapply hm
    isplitr; · iexact HE
    iapply (hrun K)
    isplitr; · iexact HE
    isplitl [HO] <;> iassumption
  unfold inv₀ opening dealt Dat.owesAt Pipeline.owesWithin
  iintro ⟨⟨⟨⟨%K, #HR, Hp, Ht⟩, Hc, #HL, Ha⟩, Hs⟩, ⟨%W, %hW, HO⟩, ⟨%d, %f, %hf, Hout⟩⟩
  iapply (hall K)
  unfold env records Mm.before owesN
  icases HR with ⟨HI, HR⟩
  isplitr
  · isplitl; · iexact HI
    isplitl; · iexact HR
    iexact HL
  isplitl [HO]; · iexists W; iexact HO
  isplitl [Hp Hc Ht]
  · isplitl [Hp]; · iexact Hp
    isplitl [Hc] <;> iassumption
  isplitl [Ha]; · iexact Ha
  isplitl [Hs]; · iexact Hs
  iexists f; iexact Hout

set_option maxRecDepth 8000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact run_body m ρ c

/-! ## The side conditions of the launch -/

theorem own_sems : Pipeline.OwnSemFacts cfg0.spec osem := by decide +kernel
theorem share_eq (c : Dev nD) (w : Fin cfg0.W) : (dats m ρ 0 c).share w = fullShare := by unfold Dat.share; split <;> rfl

theorem rest_eq (c : Dev nD) : (Pipeline.unscopedRestP Pipeline.Prefetch.none cfg0.spec c (fun b => m ((c : Thread nD τ).loc b)) : sProp 𝕄) = args m c := by
  rw [Pipeline.unscopedRestP_eq_of_list cfg0.spec c Pipeline.Prefetch.none (fun b => m ((c : Thread nD τ).loc b)) [main_arg0, main_arg1] (by decide) (by decide), bigSepL_cons_cons, bigSepL_singleton]
  rfl

theorem opening_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ dealt m c)
      ⊢ |={Set.univ}=> iprop(opening m c ∗ emp) := by
  rw [rest_eq]
  iintro ⟨Ha, Hl, Hc, -, Hd⟩
  ihave Hc := (launch_credits (F := F) c) $$ Hc
  imodintro
  unfold opening
  isplitl
  · isplitl [Hd]; · iexact Hd
    isplitl [Hc]; · iexact Hc
    isplitl [Hl] <;> iassumption
  iempintro

theorem inv_intro (c : Dev nD) :
    iprop(opening m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = inv₀ m c from rfl, scopedRest0_eq]
  unfold inv₀ scratch
  iintro ⟨Ho, -, Hs⟩
  isplitl [Ho] <;> iassumption

/-- What is left for the end: the barrier's semaphore and the argument arrays. -/
def closing (c : Dev nD) : sProp 𝕄 := iprop(unscopedSems0 c ∗ args m c)
theorem inv_exit (c : Dev nD) :
    (dats m ρ 0 c).Φ (Fin.last cfg0.N) ⊢ iprop(closing m c ∗ Pipeline.ownSems0 osem c ∗ Pipeline.scopedRest cfg0.spec c) := by
  rw [show (dats m ρ 0 c).Φ (Fin.last cfg0.N) = inv₁ m c from rfl, scopedRest0_eq]
  unfold inv₁ closing scratch
  rw [sems_eq]
  iintro ⟨⟨Hu, Ho⟩, Ha, Hs⟩
  isplitl [Hu Ha]; · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have hs : semLvl (.dma (((cfgs 0).win w).sem s)) = 0 := by fin_cases w; fin_cases s; decide +kernel
    rcases t with ⟨_ | _, ht⟩
    · exact mayWait c _ 0 fun i _ h => by rw [hs]; exact pay_pos i h
    · exact mayWait c _ 23 fun i h1 h2 => absurd h1 (by omega)

/-- The memory at the end agrees with a buffer still held. -/
theorem read_held (c : Dev nD) (b : Ref sig .tc) (f : Buf (Elt F) ((c : Thread nD τ).loc b)) (s' : Phys nD τ sig (Elt F)) :
    iprop((((c : Thread nD τ).loc b) ↦{fullShare} f) ∗ SI s') ⊢ (iprop(⌜s'.mem.mem ((c : Thread nD τ).loc b) = f⌝ ∗ SI s') : sProp 𝕄) := by
  have h := pointsTo_read_all (Ix := Unit) (Name := ℕ) (U := UAlg) (Lvl := ℕ) ({()} : Finset Unit) (fun _ => (c : Thread nD τ).loc b) (fun _ => f) s'
  rw [bigSep_singleton] at h
  iintro H
  ihave H := h $$ H
  icases H with ⟨%hf, H⟩
  isplitr; · ipureintro; exact hf () (Finset.mem_singleton_self _)
  iexact H

def unchanged (c : Dev nD) (s : MemSt nD τ sig (Elt F)) : Prop :=
  (∀ sm : SemLoc sig, sm.isScoped .tc = false → s.sem ((c.tc : Thread nD τ), sm) = 0)
    ∧ s.mem ((c : Thread nD τ).loc main_arg0) = dyA m c ∧ s.mem ((c : Thread nD τ).loc main_arg1) = wA m c

theorem closing_read (c : Dev nD) (s' : Phys nD τ sig (Elt F)) :
    iprop(closing m c ∗ emp ∗ SI s') ⊢ |={Set.univ}=> (iprop(⌜unchanged m c s'.mem⌝ ∗ SI s') : sProp 𝕄) := by
  unfold closing args
  iintro ⟨⟨Hu, H0, H1⟩, -, HS⟩
  ihave H := (read_held c main_arg0 (dyA m c) s') $$ [H0 HS]
  · isplitl [H0] <;> iassumption
  icases H with ⟨%h0, HS⟩
  ihave H := (read_held c main_arg1 (wA m c) s') $$ [H1 HS]
  · isplitl [H1] <;> iassumption
  icases H with ⟨%h1, HS⟩
  imod (Pipeline.unscopedSems0_read (X := unscopedSems0 c) (c := c) fupd_intro s') $$ [Hu HS] with ⟨%hu, HS⟩
  · isplitl [Hu] <;> iassumption
  imodintro
  isplitr; · ipureintro; exact ⟨hu, h0, h1⟩
  iexact HS

/-- The result array at the end. -/
theorem arr_end (c : Dev nD) : (dats m ρ 0 c).arrAt (0 : Fin 1) cfg0.N = outAt m c :=
  (dats m ρ 0 c).arrAt_eq_of_after_last (0 : Fin 1) t0_0 (by decide +kernel) (outAt m c) fun j => by
    rfl

/-! ## The run -/

/-- What the run ends with. -/
def ends (r : PUnit × MemSt nD τ sig (Elt F)) : Prop :=
  (∀ c : Dev nD, r.2.mem ((c : Thread nD τ).loc main_v1) = outAt m c ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

set_option maxRecDepth 8000 in
/-- Every device ends with the result's contents, its arguments unchanged, and every semaphore at zero. -/
theorem run_main : θ_run defs (onTc (τ := τ) (main (F := F))) (s₀ m ρ) (ends m) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := fun d => owed d 0) (howed₀ := fun _ => rfl) (howedN := owed_end)
    (L := L) (lv := lv) (hL := L_other) (hwaits := waits m ρ)
    (G := given m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := set_up m)
    (hA := fun _ _ => rfl) (hpf := fun _ k => k.elim0)
    (X := opening m) (Y := closing m) (Z := fun _ => iprop(emp))
    (hX := opening_intro m ρ) (hin := inv_intro m ρ) (hout := inv_exit m ρ)
    (QY := unchanged m) (hY := closing_read m)
    (hQ := fun _ h hs => ⟨fun c => ⟨((h c).1 (0 : Fin 1)).trans (arr_end m ρ c), (h c).2.2.2⟩, sem_eq_zero hs fun c => (h c).2.2.1⟩)

end

end Cert.KernelIdeal.Mm

end
-- ==== Proof.Value.Tile.lean ====
/- What one tile holds at the extended reals: each entry is the sum of two inner products of length 4096, one over the
   device's own columns of `dy` and `W` and one over its `y` neighbour's. -/
module

public import proofs.«01_k».proof.Proof.Ideal.Contents
public import Idealize.ShloMosaic.Lib.MatmulPlain
public import Idealize.ShloMosaic.Lib.Pipeline.Value

@[expose] public section

noncomputable section

namespace Cert.KernelIdeal.Mm

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

theorem row_add_lt (c : Dev nD) (a : Fin 256) : row c + a.val < 1024 := by
  have h : c.val < 8 := c.isLt
  have := a.isLt
  unfold row; omega
theorem chunk_add_lt (j : Fin 4) (b : Fin 256) : 256 * j.val + b.val < 1024 := by omega

theorem dyOff_eq (c : Dev nD) : k0_off1 c = ![row c, 0] := by revert c; decide +kernel

/-- The rows of `dy` a device multiplies are rows `row c …` of its block. -/
theorem dyBlk_apply (c : Dev nD) (a : Fin 256) (k : Fin 4096) :
    dyBlk m c (ix2 a k) = dyA m c (ix2 (⟨row c + a.val, row_add_lt c a⟩ : Fin 1024) k) := by
  refine congrArg (dyA m c) (funext fun x => Fin.ext ?_)
  match x with
  | ⟨0, _⟩ =>
    show (k0_off1 c) 0 + 1 * a.val = row c + a.val
    rw [dyOff_eq, Nat.one_mul]; rfl
  | ⟨1, _⟩ =>
    show (k0_off1 c) 1 + 1 * k.val = k.val
    rw [dyOff_eq, Nat.one_mul]; exact Nat.zero_add _

/-- Chunk `j` of `W` is rows `256 j …` of the device's block. -/
theorem wBlk_apply (c : Dev nD) (j : Fin 4) (b : Fin 256) (k : Fin 4096) :
    wBlk m c j (ix2 b k) = wA m c (ix2 (⟨256 * j.val + b.val, chunk_add_lt j b⟩ : Fin 1024) k) := by
  refine congrArg (wA m c) (funext fun x => Fin.ext ?_)
  match x with
  | ⟨0, _⟩ => show 256 * j.val + 1 * b.val = 256 * j.val + b.val; omega
  | ⟨1, _⟩ => show 0 + 1 * k.val = k.val; omega

/-- A chunk loaded from its slot, without the slot's leading axis, is the chunk. -/
theorem wv_cast (c : Dev nD) (j : Fin 4) :
    shapeCast S256x4096 (wv m c j) shapeCasts_S1x256x4096_S256x4096 = wBlk m c j := by
  funext y
  unfold shapeCast wv
  exact congrArg (wBlk m c j) (Equiv.symm_apply_apply _ y)

/-- An entry of the device's block of `dy`, -/
def dyE (c : Dev nD) (r : Fin 1024) (k : Fin 4096) : EReal := dyA m c (ix2 r k)
/-- of its block of `W`. -/
def wE (c : Dev nD) (q : Fin 1024) (k : Fin 4096) : EReal := wA m c (ix2 q k)
/-- The inner product of row `r` of the device's block of `dy` and row `q` of its block of `W`. -/
def rowDot (c : Dev nD) (r q : Fin 1024) : EReal := ∑ k : Fin 4096, dyE m c r k * wE m c q k

/-- The device's partial product, without its leading axis. -/
theorem part_apply (c : Dev nD) (j : Fin 4) (a b : Fin 256) :
    (shapeCast S256x256 (part m c j) shapeCasts_S1x256x256_S256x256 : FVec Ideal S256x256 .f32) (ix2 a b)
      = rowDot m c ⟨row c + a.val, row_add_lt c a⟩ ⟨256 * j.val + b.val, chunk_add_lt j b⟩ := by
  have hd : dot_S256x4096_S256x4096_S256x256_1_1_0_0_n_n = DotDims.transposedRhs 256 4096 256 := rfl
  have hp : part m c j = shapeCast S1x256x256 (FloatOps.matmul dot_S256x4096_S256x4096_S256x256_1_1_0_0_n_n none (φ₁ := .f32) (φ₂ := .f32) (dyBlk m c)
      (shapeCast S256x4096 (wv m c j) shapeCasts_S1x256x4096_S256x4096) (constant (F := Ideal) S256x256 .f32 0x00000000#32)) shapeCasts_S256x256_S1x256x256 := rfl
  rw [hp, wv_cast, shapeCast_shapeCast, hd]
  refine (Ideal.matmul_transposedRhs_apply none _ _ _ a b).trans ?_
  refine (congrArg (· + _) Ideal.ofBits_zero_f32).trans ((zero_add _).trans ?_)
  exact Finset.sum_congr rfl fun k _ => by rw [dyBlk_apply, wBlk_apply]; rfl

theorem row_yn (c : Dev nD) : row (yn c) = row c := by revert c; decide

/-- An entry of a tile. -/
theorem tile_apply (c : Dev nD) (j : Fin 4) (a b : Fin 256) :
    (tile m c j (ix2 a b) : EReal)
      = rowDot m c ⟨row c + a.val, row_add_lt c a⟩ ⟨256 * j.val + b.val, chunk_add_lt j b⟩
        + rowDot m (yn c) ⟨row c + a.val, row_add_lt c a⟩ ⟨256 * j.val + b.val, chunk_add_lt j b⟩ := by
  have e := part_apply m (yn c) j a b
  simp only [row_yn] at e
  rw [← part_apply m c j a b, ← e]
  rfl

end Cert.KernelIdeal.Mm

end
-- ==== Proof.Value.Reference.lean ====
/- What the reference computes at the extended reals: each entry is the inner product, of length 8192, of a row of `dy`
   and a row of `W`. -/
module

public import proofs.«01_k».proof.Proof.Gen.ReferenceIdeal.Run
public import Idealize.ShloMosaic.Lib.StackMember
public import Idealize.ShloMosaic.Lib.Pipeline.Value

@[expose] public section

noncomputable section

namespace Cert.ReferenceIdeal.Mm

open Cert.ReferenceIdeal Cert.ReferenceIdeal.Gen
open Idealize.ShloMosaic Idealize.ShloMosaic.TcCoe Idealize.ShloMosaic.ValueIdx
open scoped BigOperators

/-- The product of `dy` and the transpose of `W`. -/
def product (dy w : FVec Ideal S1024x8192 .f32) : FVec Ideal S1024x1024 .f32 :=
  Host.dotGeneral (F := Ideal) dot_S1024x8192_S8192x1024_S1024x1024_1_0_0_1_n_n none dy
    (transpose S8192x1024 [1, 0] w transposes_S1024x8192_S8192x1024_1_0)

/-- An entry of it. -/
theorem product_apply (dy w : FVec Ideal S1024x8192 .f32) (r q : Fin 1024) :
    (product dy w (ix2 r q) : EReal) = ∑ k : Fin 8192, (dy (ix2 r k) : EReal) * (w (ix2 q k) : EReal) := by
  refine (StackMember.dotGeneral_plain_apply (m := 1024) (n := 1024) (k := 8192) none dy
    (transpose S8192x1024 [1, 0] w transposes_S1024x8192_S8192x1024_1_0) r q).trans ?_
  refine Finset.sum_congr rfl fun k _ => congrArg (_ * ·) ?_
  refine transpose_apply _ w _ _ _ fun b => ?_
  match b with
  | ⟨0, _⟩ => rfl
  | ⟨1, _⟩ => rfl

end Cert.ReferenceIdeal.Mm

end
-- ==== Proof.Value.Equation.lean ====
/- The equation: if every device holds its half of the columns of `dy` and `W`, the assembled result of every device is
   the reference's product. The two halves of a row's inner product are those of a device and its `y` neighbour. -/
module

public import proofs.«01_k».proof.Proof.Value.Tile
public import proofs.«01_k».proof.Proof.Value.Reference
public import Idealize.ShloMosaic.Lib.Layout

@[expose] public section

noncomputable section

namespace Cert.KernelIdeal.Mm

open Cert.KernelIdeal Cert.KernelIdeal.Gen
open Idealize.ShloMosaic Idealize.ShloMosaic.TcCoe Idealize.ShloMosaic.ValueIdx
open scoped BigOperators

/-- A sum over 8192 columns is the sum of those over its two halves. -/
theorem sum_halves (f : Fin 8192 → EReal) :
    (∑ k : Fin 8192, f k)
      = (∑ k : Fin 4096, f ⟨k.val, by omega⟩) + ∑ k : Fin 4096, f ⟨4096 + k.val, by omega⟩ :=
  Fin.sum_univ_add (a := 4096) (b := 4096) f

/-- A whole array of 8192 columns. -/
abbrev Whole : Type := FVec Ideal ⟨2, ![1024, 8192]⟩ .f32

/-- The block of columns a device holds. -/
abbrev blockOf (c : Dev nD) (v : Whole) : FVec Ideal ⟨2, ![1024, 4096]⟩ .f32 :=
  Layout.blockN ⟨2, ![1024, 4096]⟩ ⟨2, ![1024, 8192]⟩ (Layout.meshBlock [2, 2, 2] ![[], [1]] c) v

/-- The device's coordinate along `y`. -/
abbrev yc (c : Dev nD) : ℕ := c.val / 2 % 2

theorem meshBlock_row (c : Dev nD) : ((Layout.meshBlock [2, 2, 2] ![[], [1]] c) (0 : Fin 2)).val = 0 := by
  revert c; decide
theorem meshBlock_col (c : Dev nD) : ((Layout.meshBlock [2, 2, 2] ![[], [1]] c) (1 : Fin 2)).val = yc c := by
  revert c; decide
theorem col_lt (c : Dev nD) (k : Fin 4096) : 4096 * yc c + k.val < 8192 := by
  have := k.isLt
  unfold yc; omega

/-- An entry of the block. -/
theorem blockOf_apply (c : Dev nD) (v : Whole) (r : Fin 1024) (k : Fin 4096) :
    blockOf c v (ix2 r k) = v (ix2 r (⟨4096 * yc c + k.val, col_lt c k⟩ : Fin 8192)) := by
  refine congrArg v (funext fun a => Fin.ext ?_)
  match a with
  | ⟨0, _⟩ =>
    show ((Layout.meshBlock [2, 2, 2] ![[], [1]] c) (0 : Fin 2)).val * 1024 + r.val = r.val
    rw [meshBlock_row]; omega
  | ⟨1, _⟩ =>
    show ((Layout.meshBlock [2, 2, 2] ![[], [1]] c) (1 : Fin 2)).val * 4096 + k.val = 4096 * yc c + k.val
    rw [meshBlock_col]; omega

variable (m : (ℓ : Loc nD τ sig) → Buf (Elt Ideal) ℓ) (dy w : Whole)

/-- The half of a row's inner product over the columns of one `y` coordinate. -/
def half (y : ℕ) (hy : y < 2) (r q : Fin 1024) : EReal :=
  ∑ k : Fin 4096, (dy (ix2 r (⟨4096 * y + k.val, by omega⟩ : Fin 8192)) : EReal) * (w (ix2 q (⟨4096 * y + k.val, by omega⟩ : Fin 8192)) : EReal)

theorem yc_lt (c : Dev nD) : yc c < 2 := Nat.mod_lt _ (by decide)

/-- A device's inner product is the half its `y` coordinate names. -/
theorem rowDot_eq (hdy : ∀ c, dyA m c = blockOf c dy) (hw : ∀ c, wA m c = blockOf c w) (c : Dev nD) (r q : Fin 1024) :
    rowDot m c r q = half dy w (yc c) (yc_lt c) r q := by
  refine Finset.sum_congr rfl fun k _ => ?_
  unfold dyE wE
  rw [hdy, hw]
  exact congrArg₂ (fun x y : EReal => x * y) (blockOf_apply c dy r k) (blockOf_apply c w q k)

theorem yc_yn (c : Dev nD) : yc (yn c) = 1 - yc c := by revert c; decide

/-- A device's half and its `y` neighbour's add up to the whole inner product. -/
theorem halves_add (c : Dev nD) (r q : Fin 1024) :
    half dy w (yc c) (yc_lt c) r q + half dy w (yc (yn c)) (yc_lt _) r q
      = ∑ k : Fin 8192, (dy (ix2 r k) : EReal) * (w (ix2 q k) : EReal) := by
  have h01 : half dy w 0 (by decide) r q + half dy w 1 (by decide) r q
      = ∑ k : Fin 8192, (dy (ix2 r k) : EReal) * (w (ix2 q k) : EReal) := by
    rw [sum_halves]
    refine congrArg₂ (fun x y : EReal => x + y) (Finset.sum_congr rfl fun k _ => ?_) (Finset.sum_congr rfl fun k _ => ?_)
    · have e : (⟨4096 * 0 + k.val, by omega⟩ : Fin 8192) = ⟨k.val, by omega⟩ := Fin.ext (by show 4096 * 0 + k.val = k.val; omega)
      rw [e]
    · rfl
  rcases Nat.lt_or_ge (yc c) 1 with h | h
  · have e0 : yc c = 0 := by omega
    have e1 : yc (yn c) = 1 := by rw [yc_yn, e0]
    simp only [e0, e1]; exact h01
  · have e0 : yc c = 1 := by have := yc_lt c; omega
    have e1 : yc (yn c) = 0 := by rw [yc_yn, e0]
    simp only [e0, e1]; exact (add_comm _ _).trans h01

/-- Which row and column of the result an entry of its owner's tile is. -/
theorem owner_at (c : Dev nD) (r : Fin 1024) : row (owner c r.val) + r.val % 256 = r.val := by
  have hr := r.isLt
  have ha : r.val / 256 % 2 < 2 := Nat.mod_lt _ (by decide)
  have hb : c.val / 2 % 2 < 2 := Nat.mod_lt _ (by decide)
  have hd : r.val / 512 % 2 < 2 := Nat.mod_lt _ (by decide)
  have e1 : (owner c r.val).val % 2 = r.val / 512 % 2 := by
    show (4 * (r.val / 256 % 2) + 2 * (c.val / 2 % 2) + r.val / 512 % 2) % 2 = _
    omega
  have e2 : (owner c r.val).val / 4 = r.val / 256 % 2 := by
    show (4 * (r.val / 256 % 2) + 2 * (c.val / 2 % 2) + r.val / 512 % 2) / 4 = _
    generalize r.val / 256 % 2 = x at ha ⊢
    generalize c.val / 2 % 2 = y at hb ⊢
    generalize r.val / 512 % 2 = z at hd ⊢
    omega
  show 512 * ((owner c r.val).val % 2) + 256 * ((owner c r.val).val / 4) + r.val % 256 = r.val
  rw [e1, e2]
  have e3 : r.val / 256 / 2 = r.val / 512 := Nat.div_div_eq_div_mul _ _ _
  clear e1 e2 ha hb hd
  generalize r.val = n at hr e3 ⊢
  omega

/-- **The equation.** Every device's result is the reference's product. -/
theorem outAt_eq (hdy : ∀ c, dyA m c = blockOf c dy) (hw : ∀ c, wA m c = blockOf c w) (c : Dev nD) :
    outAt m c = Cert.ReferenceIdeal.Mm.product dy w := by
  funext i
  obtain ⟨r, q, rfl⟩ : ∃ r q : Fin 1024, i = ix2 r q := ⟨i (0 : Fin 2), i (1 : Fin 2), funext fun a => by
    match a with
    | ⟨0, _⟩ => rfl
    | ⟨1, _⟩ => rfl⟩
  refine Eq.trans ?_ (Cert.ReferenceIdeal.Mm.product_apply dy w r q).symm
  have hq := q.isLt
  refine (tile_apply m (owner c r.val) ⟨q.val / 256, by omega⟩ ⟨r.val % 256, by omega⟩ ⟨q.val % 256, by omega⟩).trans ?_
  have er : (⟨row (owner c r.val) + r.val % 256, row_add_lt (owner c r.val) ⟨r.val % 256, by omega⟩⟩ : Fin 1024) = r :=
    Fin.ext (owner_at c r)
  have eq : (⟨256 * (q.val / 256) + q.val % 256, chunk_add_lt ⟨q.val / 256, by omega⟩ ⟨q.val % 256, by omega⟩⟩ : Fin 1024) = q :=
    Fin.ext (by show 256 * (q.val / 256) + q.val % 256 = q.val; omega)
  rw [rowDot_eq m dy w hdy hw, rowDot_eq m dy w hdy hw]
  refine (halves_add dy w _ _ _).trans ?_
  exact Finset.sum_congr rfl fun k _ => congrArg₂ (fun a b : Fin 1024 => (dy (ix2 a k) : EReal) * (w (ix2 b k) : EReal)) er eq

end Cert.KernelIdeal.Mm

end
-- ==== Proof.lean ====
/- The certificate: the kernel computes `dy · Wᵀ` over eight devices, each holding half of the columns of `dy` and `W`.

   `Proof/Bits` and `Proof/Ideal` prove one run of the kernel, the same text for the two readings of the program: every
   execution ends, with every semaphore at zero, the arguments unchanged and the assembled result on every device.
   `Proof/Value` proves that at the extended reals this result is the reference's product. -/
module

public import proofs.«01_k».proof.Defs
public import proofs.«01_k».proof.Proof.Bits.Launch
public import proofs.«01_k».proof.Proof.Ideal.Launch
public import proofs.«01_k».proof.Proof.Gen.ReferenceIdeal.Run
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends with its arguments unchanged and its semaphores at zero, -/
theorem frame_kernel : Cert.quiescent_Kernel := fun m g _ =>
  (θ_run Cert.Kernel.defs _ _).mono (fun _ h => ⟨fun c => (h.1 c).2, h.2⟩) (Cert.Kernel.Mm.run_main (F := Bits) m g)

/-- so does its reading at the extended reals, -/
theorem frame_ideal : Cert.quiescent_KernelIdeal := fun m g _ =>
  (θ_run Cert.KernelIdeal.defs _ _).mono (fun _ h => ⟨fun c => (h.1 c).2, h.2⟩) (Cert.KernelIdeal.Mm.run_main (F := Ideal) m g)

/-- and the reference, which has no semaphore. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- At the extended reals the kernel's result, on every device, is the reference's. -/
theorem value : Cert.algebraic_KernelIdeal_ReferenceIdeal := fun m g m' g' _ h =>
  ⟨Cert.ReferenceIdeal.Mm.product (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ e c => ⟨(e.1 c).1.trans (Cert.KernelIdeal.Mm.outAt_eq m _ _ (fun c => (h c).1) (fun c => (h c).2) c), (e.1 c).2⟩)
      (Cert.KernelIdeal.Mm.run_main (F := Ideal) m g),
    (θ_run Cert.ReferenceIdeal.defs _ _).mono (fun _ e => e 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, value⟩

end Cert.Proof

end
